-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x8192 : Shape := ⟨2, ![768, 8192]⟩
abbrev S2x512x8x64 : Shape := ⟨4, ![2, 512, 8, 64]⟩
abbrev S8192x768 : Shape := ⟨2, ![8192, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x8192 : S_.BroadcastsInDim S768x8192 (![] : Fin 0 → Fin S768x8192.rank)
  reducesTo_S768x8192_S_d0_1 : S768x8192.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .bf16) (main_arg1 : FVec F S768x8192 .bf16) (main_arg2 : FVec F S2x512x8x64 .bf16) (main_arg3 : FVec F S2x512x8x64 .bf16) (main_arg4 : FVec F S8192x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x8192 .f32 := (extf .f32 · bitsLt_bf16_f32) main_arg1
  let main_v6 : FVec F S768x8192 .f32 := Host.absf main_v5
  let main_cst_0 : FVec F S_ .f32 := constant S_ .f32 0x7F800000#32
  let main_v7 : FVec F S768x8192 .f32 := broadcastInDim S768x8192 ![] bcast_S_S768x8192 main_cst_0
  let main_v8 : IVec S768x8192 1 := cmpf .olt main_v6 main_v7
  let main_c_1 : IVec S_ 1 := constantI S_ 1 1#1
  let main_v9 : IVec S_ 1 := (fun x v => Host.reduce IntOp.andi x v reducesTo_S768x8192_S_d0_1 h_S_) main_v8 main_c_1
  let main_v10 : IVec S_ 1 := andi main_v4 main_v9
  let main_v11 : FVec F S2x512x8x64 .f32 := (extf .f32 · bitsLt_bf16_f32) main_arg2
  let main_v12 : FVec F S2x512x8x64 .f32 := Host.absf main_v11
  let main_cst_2 : FVec F S_ .f32 := constant S_ .f32 0x7F800000#32
  let main_v13 : FVec F S2x512x8x64 .f32 := broadcastInDim S2x512x8x64 ![] bcast_S_S2x512x8x64 main_cst_2
  let main_v14 : IVec S2x512x8x64 1 := cmpf .olt main_v12 main_v13
  let main_c_3 : IVec S_ 1 := constantI S_ 1 1#1
  let main_v15 : IVec S_ 1 := (fun x v => Host.reduce IntOp.andi x v reducesTo_S2x512x8x64_S_d0_1_2_3 h_S_) main_v14 main_c_3
  let main_v16 : IVec S_ 1 := andi main_v10 main_v15
  main_v16
-- ==== Pre_finite_scores_ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x8192 : S_.BroadcastsInDim S768x8192 (![] : Fin 0 → Fin S768x8192.rank)
  reducesTo_S768x8192_S_d0_1 : S768x8192.ReducesTo [0, 1] S_
  bcast_S_S2x512x128x64 : S_.BroadcastsInDim S2x512x128x64 (![] : Fin 0 → Fin S2x512x128x64.rank)
  reducesTo_S2x512x128x64_S_d0_1_2_3 : S2x512x128x64.ReducesTo [0, 1, 2, 3] S_

variable [Facts]

def fn {F : FTy → Type} [FloatOps F] (main_arg0 : FVec F S2x512x768 .bf16) (main_arg1 : FVec F S768x8192 .bf16) (main_arg2 : FVec F S2x512x128x64 .bf16) (main_arg3 : FVec F S2x512x128x64 .bf16) (main_arg4 : FVec F S8192x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x8192 .f32 := (extf .f32 · bitsLt_bf16_f32) main_arg1
  let main_v6 : FVec F S768x8192 .f32 := Host.absf main_v5
  let main_cst_0 : FVec F S_ .f32 := constant S_ .f32 0x7F800000#32
  let main_v7 : FVec F S768x8192 .f32 := broadcastInDim S768x8192 ![] bcast_S_S768x8192 main_cst_0
  let main_v8 : IVec S768x8192 1 := cmpf .olt main_v6 main_v7
  let main_c_1 : IVec S_ 1 := constantI S_ 1 1#1
  let main_v9 : IVec S_ 1 := (fun x v => Host.reduce IntOp.andi x v reducesTo_S768x8192_S_d0_1 h_S_) main_v8 main_c_1
  let main_v10 : IVec S_ 1 := andi main_v4 main_v9
  let main_v11 : FVec F S2x512x128x64 .f32 := (extf .f32 · bitsLt_bf16_f32) main_arg2
  let main_v12 : FVec F S2x512x128x64 .f32 := Host.absf main_v11
  let main_cst_2 : FVec F S_ .f32 := constant S_ .f32 0x7F800000#32
  let main_v13 : FVec F S2x512x128x64 .f32 := broadcastInDim S2x512x128x64 ![] bcast_S_S2x512x128x64 main_cst_2
  let main_v14 : IVec S2x512x128x64 1 := cmpf .olt main_v12 main_v13
  let main_c_3 : IVec S_ 1 := constantI S_ 1 1#1
  let main_v15 : IVec S_ 1 := (fun x v => Host.reduce IntOp.andi x v reducesTo_S2x512x128x64_S_d0_1_2_3 h_S_) main_v14 main_c_3
  let main_v16 : IVec S_ 1 := andi main_v10 main_v15
  main_v16
-- ==== Kernel.lean ====
abbrev S2x512x768 : Shape := ⟨3, ![2, 512, 768]⟩
abbrev S768x8192 : Shape := ⟨2, ![768, 8192]⟩
abbrev S2x512x8x64 : Shape := ⟨4, ![2, 512, 8, 64]⟩
abbrev S8192x768 : Shape := ⟨2, ![8192, 768]⟩
abbrev S_ : Shape := ⟨0, ![]⟩
abbrev S1024x768 : Shape := ⟨2, ![1024, 768]⟩
abbrev S1024x512 : Shape := ⟨2, ![1024, 512]⟩
abbrev S768x512 : Shape := ⟨2, ![768, 512]⟩
abbrev S512x768 : Shape := ⟨2, ![512, 768]⟩
abbrev S64x768 : Shape := ⟨2, ![64, 768]⟩
abbrev S16x64x768 : Shape := ⟨3, ![16, 64, 768]⟩
abbrev S15 : Shape := ⟨1, ![15]⟩
abbrev S512x512 : Shape := ⟨2, ![512, 512]⟩
abbrev S512x64 : Shape := ⟨2, ![512, 64]⟩
abbrev S512 : Shape := ⟨1, ![512]⟩
abbrev S512x1 : Shape := ⟨2, ![512, 1]⟩
abbrev S64x512 : Shape := ⟨2, ![64, 512]⟩
abbrev S1x64x768 : Shape := ⟨3, ![1, 64, 768]⟩
abbrev S1 : Shape := ⟨1, ![1]⟩

abbrev nBuf : Space → Nat
  | .hbm => 34
  | .vmem => 15
  | .smem => 0
  | _ => 0

abbrev bufTy : (tb : Table) → Fin (tcTables nBuf tb) → BufTy
  | .hbm, ⟨0, _⟩ => ⟨S2x512x768, .bf16⟩
  | .hbm, ⟨1, _⟩ => ⟨S768x8192, .bf16⟩
  | .hbm, ⟨2, _⟩ => ⟨S2x512x8x64, .bf16⟩
  | .hbm, ⟨3, _⟩ => ⟨S2x512x8x64, .bf16⟩
  | .hbm, ⟨4, _⟩ => ⟨S8192x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x768, .bf16⟩
  | .hbm, ⟨12, _⟩ => ⟨S1024x512, .bf16⟩
  | .hbm, ⟨13, _⟩ => ⟨S1024x512, .bf16⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S768x512, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S512x768, .bf16⟩
  | .hbm, ⟨32, _⟩ => ⟨S1024x768, .f32⟩
  | .hbm, ⟨33, _⟩ => ⟨S2x512x768, .f32⟩
  | .local _ .vmem, ⟨0, _⟩ => ⟨S1024x768, .bf16⟩
  | .local _ .vmem, ⟨1, _⟩ => ⟨S768x512, .bf16⟩
  | .local _ .vmem, ⟨2, _⟩ => ⟨S1024x512, .bf16⟩
  | .local _ .vmem, ⟨3, _⟩ => ⟨S1024x512, .bf16⟩
  | .local _ .vmem, ⟨4, _⟩ => ⟨S512x768, .bf16⟩
  | .local _ .vmem, ⟨5, _⟩ => ⟨S1024x768, .f32⟩
  | .local _ .vmem, ⟨6, _⟩ => ⟨S1024x768, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x768, .bf16⟩
  | .local _ .vmem, ⟨12, _⟩ => ⟨S64x768, .bf16⟩
  | .local _ .vmem, ⟨13, _⟩ => ⟨S16x64x768, .bf16⟩
  | .local _ .vmem, ⟨14, _⟩ => ⟨S1024x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_c_5 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_c_7 : Ref sig .tc := ⟨.hbm, 27, rfl⟩
abbrev main_v15 : Ref sig .tc := ⟨.hbm, 28, rfl⟩
abbrev main_v16 : Ref sig .tc := ⟨.hbm, 29, rfl⟩
abbrev main_c_8 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_off1 (d0 : Dev nD) (c0_i32_290 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v456 : BitVec 32 := Scalar.addi v2 c0_i32_290
  let c16_i32_291 : BitVec 32 := 16#32
  let c0_i32_292 : BitVec 32 := 0#32
  let v457 : BitVec 1 := Scalar.cmpi .eq c16_i32_291 c0_i32_292
  let c1_i32_293 : BitVec 32 := 1#32
  let v458 : BitVec 32 := Scalar.select v457 c1_i32_293 c16_i32_291
  let v459 : BitVec 32 := Scalar.remsi v456 v458
  let c0_i32_295 : BitVec 32 := 0#32
  let v461 : BitVec 1 := Scalar.cmpi .slt v459 c0_i32_295
  let c0_i32_296 : BitVec 32 := 0#32
  let v462 : BitVec 1 := Scalar.cmpi .slt v458 c0_i32_296
  let v463 : BitVec 1 := Scalar.xori v461 v462
  let c0_i32_294 : BitVec 32 := 0#32
  let v460 : BitVec 1 := Scalar.cmpi .ne v459 c0_i32_294
  let v464 : BitVec 1 := Scalar.andi v463 v460
  let v465 : BitVec 32 := Scalar.addi v459 v458
  let v466 : BitVec 32 := Scalar.select v464 v465 v459
  let c64_i32_297 : BitVec 32 := 64#32
  let v467 : BitVec 32 := Scalar.muli v466 c64_i32_297
  let v468 : Index := Scalar.indexCast v467
  let c0_298 : Index := 0#32
  ![v468.toNat, 0]
def k0_off2 (d0 : Dev nD) (c0_i32_290 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v456 : BitVec 32 := Scalar.addi v2 c0_i32_290
  let c16_i32_291 : BitVec 32 := 16#32
  let c0_i32_292 : BitVec 32 := 0#32
  let v457 : BitVec 1 := Scalar.cmpi .eq c16_i32_291 c0_i32_292
  let c1_i32_293 : BitVec 32 := 1#32
  let v458 : BitVec 32 := Scalar.select v457 c1_i32_293 c16_i32_291
  let v459 : BitVec 32 := Scalar.remsi v456 v458
  let c0_i32_295 : BitVec 32 := 0#32
  let v461 : BitVec 1 := Scalar.cmpi .slt v459 c0_i32_295
  let c0_i32_296 : BitVec 32 := 0#32
  let v462 : BitVec 1 := Scalar.cmpi .slt v458 c0_i32_296
  let v463 : BitVec 1 := Scalar.xori v461 v462
  let c0_i32_294 : BitVec 32 := 0#32
  let v460 : BitVec 1 := Scalar.cmpi .ne v459 c0_i32_294
  let v464 : BitVec 1 := Scalar.andi v463 v460
  let v465 : BitVec 32 := Scalar.addi v459 v458
  let v466 : BitVec 32 := Scalar.select v464 v465 v459
  let c64_i32_297 : BitVec 32 := 64#32
  let v467 : BitVec 32 := Scalar.muli v466 c64_i32_297
  let v474 : Index := Scalar.indexCast v467
  let c0_302 : Index := 0#32
  ![v474.toNat, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v478 : Index := Scalar.indexCast v2
  let c0_303 : Index := 0#32
  let c0_304 : Index := 0#32
  ![v478.toNat, 0, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_322 : BitVec 32 := 0#32
  let c0_i32_323 : BitVec 32 := 0#32
  ![v2.toNat, 0, 0]
def k0_off5 (d0 : Dev nD) (c1_i32_305 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v482 : BitVec 32 := Scalar.addi v2 c1_i32_305
  let c16_i32_306 : BitVec 32 := 16#32
  let c0_i32_307 : BitVec 32 := 0#32
  let v483 : BitVec 1 := Scalar.cmpi .eq c16_i32_306 c0_i32_307
  let c1_i32_308 : BitVec 32 := 1#32
  let v484 : BitVec 32 := Scalar.select v483 c1_i32_308 c16_i32_306
  let v485 : BitVec 32 := Scalar.remsi v482 v484
  let c0_i32_310 : BitVec 32 := 0#32
  let v487 : BitVec 1 := Scalar.cmpi .slt v485 c0_i32_310
  let c0_i32_311 : BitVec 32 := 0#32
  let v488 : BitVec 1 := Scalar.cmpi .slt v484 c0_i32_311
  let v489 : BitVec 1 := Scalar.xori v487 v488
  let c0_i32_309 : BitVec 32 := 0#32
  let v486 : BitVec 1 := Scalar.cmpi .ne v485 c0_i32_309
  let v490 : BitVec 1 := Scalar.andi v489 v486
  let v491 : BitVec 32 := Scalar.addi v485 v484
  let v492 : BitVec 32 := Scalar.select v490 v491 v485
  let c64_i32_312 : BitVec 32 := 64#32
  let v493 : BitVec 32 := Scalar.muli v492 c64_i32_312
  let c0_i32_324 : BitVec 32 := 0#32
  ![v493.toNat, 0]
def k0_dev17 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_305 : BitVec 32 := 1#32
  let v482 : BitVec 32 := Scalar.addi v2 c1_i32_305
  let c16_i32_306 : BitVec 32 := 16#32
  let c0_i32_307 : BitVec 32 := 0#32
  let v483 : BitVec 1 := Scalar.cmpi .eq c16_i32_306 c0_i32_307
  let c1_i32_308 : BitVec 32 := 1#32
  let v484 : BitVec 32 := Scalar.select v483 c1_i32_308 c16_i32_306
  let v485 : BitVec 32 := Scalar.remsi v482 v484
  let c0_i32_310 : BitVec 32 := 0#32
  let v487 : BitVec 1 := Scalar.cmpi .slt v485 c0_i32_310
  let c0_i32_311 : BitVec 32 := 0#32
  let v488 : BitVec 1 := Scalar.cmpi .slt v484 c0_i32_311
  let v489 : BitVec 1 := Scalar.xori v487 v488
  let c0_i32_309 : BitVec 32 := 0#32
  let v486 : BitVec 1 := Scalar.cmpi .ne v485 c0_i32_309
  let v490 : BitVec 1 := Scalar.andi v489 v486
  let v491 : BitVec 32 := Scalar.addi v485 v484
  let v492 : BitVec 32 := Scalar.select v490 v491 v485
  let c1_i32_320 : BitVec 32 := 1#32
  let v504 : BitVec 32 := Scalar.muli v492 c1_i32_320
  let v505 : BitVec 32 := Scalar.addi c0_i32_321 v504
  v505.toNat
def k0_dev18 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_325 : BitVec 32 := 2#32
  let v513 : BitVec 32 := Scalar.addi v2 c2_i32_325
  let c16_i32_326 : BitVec 32 := 16#32
  let c0_i32_327 : BitVec 32 := 0#32
  let v514 : BitVec 1 := Scalar.cmpi .eq c16_i32_326 c0_i32_327
  let c1_i32_328 : BitVec 32 := 1#32
  let v515 : BitVec 32 := Scalar.select v514 c1_i32_328 c16_i32_326
  let v516 : BitVec 32 := Scalar.remsi v513 v515
  let c0_i32_330 : BitVec 32 := 0#32
  let v518 : BitVec 1 := Scalar.cmpi .slt v516 c0_i32_330
  let c0_i32_331 : BitVec 32 := 0#32
  let v519 : BitVec 1 := Scalar.cmpi .slt v515 c0_i32_331
  let v520 : BitVec 1 := Scalar.xori v518 v519
  let c0_i32_329 : BitVec 32 := 0#32
  let v517 : BitVec 1 := Scalar.cmpi .ne v516 c0_i32_329
  let v521 : BitVec 1 := Scalar.andi v520 v517
  let v522 : BitVec 32 := Scalar.addi v516 v515
  let v523 : BitVec 32 := Scalar.select v521 v522 v516
  let c1_i32_340 : BitVec 32 := 1#32
  let v535 : BitVec 32 := Scalar.muli v523 c1_i32_340
  let v536 : BitVec 32 := Scalar.addi c0_i32_341 v535
  v536.toNat
def k0_dev19 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_345 : BitVec 32 := 3#32
  let v544 : BitVec 32 := Scalar.addi v2 c3_i32_345
  let c16_i32_346 : BitVec 32 := 16#32
  let c0_i32_347 : BitVec 32 := 0#32
  let v545 : BitVec 1 := Scalar.cmpi .eq c16_i32_346 c0_i32_347
  let c1_i32_348 : BitVec 32 := 1#32
  let v546 : BitVec 32 := Scalar.select v545 c1_i32_348 c16_i32_346
  let v547 : BitVec 32 := Scalar.remsi v544 v546
  let c0_i32_350 : BitVec 32 := 0#32
  let v549 : BitVec 1 := Scalar.cmpi .slt v547 c0_i32_350
  let c0_i32_351 : BitVec 32 := 0#32
  let v550 : BitVec 1 := Scalar.cmpi .slt v546 c0_i32_351
  let v551 : BitVec 1 := Scalar.xori v549 v550
  let c0_i32_349 : BitVec 32 := 0#32
  let v548 : BitVec 1 := Scalar.cmpi .ne v547 c0_i32_349
  let v552 : BitVec 1 := Scalar.andi v551 v548
  let v553 : BitVec 32 := Scalar.addi v547 v546
  let v554 : BitVec 32 := Scalar.select v552 v553 v547
  let c1_i32_360 : BitVec 32 := 1#32
  let v566 : BitVec 32 := Scalar.muli v554 c1_i32_360
  let v567 : BitVec 32 := Scalar.addi c0_i32_361 v566
  v567.toNat
def k0_dev20 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_365 : BitVec 32 := 4#32
  let v575 : BitVec 32 := Scalar.addi v2 c4_i32_365
  let c16_i32_366 : BitVec 32 := 16#32
  let c0_i32_367 : BitVec 32 := 0#32
  let v576 : BitVec 1 := Scalar.cmpi .eq c16_i32_366 c0_i32_367
  let c1_i32_368 : BitVec 32 := 1#32
  let v577 : BitVec 32 := Scalar.select v576 c1_i32_368 c16_i32_366
  let v578 : BitVec 32 := Scalar.remsi v575 v577
  let c0_i32_370 : BitVec 32 := 0#32
  let v580 : BitVec 1 := Scalar.cmpi .slt v578 c0_i32_370
  let c0_i32_371 : BitVec 32 := 0#32
  let v581 : BitVec 1 := Scalar.cmpi .slt v577 c0_i32_371
  let v582 : BitVec 1 := Scalar.xori v580 v581
  let c0_i32_369 : BitVec 32 := 0#32
  let v579 : BitVec 1 := Scalar.cmpi .ne v578 c0_i32_369
  let v583 : BitVec 1 := Scalar.andi v582 v579
  let v584 : BitVec 32 := Scalar.addi v578 v577
  let v585 : BitVec 32 := Scalar.select v583 v584 v578
  let c1_i32_380 : BitVec 32 := 1#32
  let v597 : BitVec 32 := Scalar.muli v585 c1_i32_380
  let v598 : BitVec 32 := Scalar.addi c0_i32_381 v597
  v598.toNat
def k0_dev21 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_385 : BitVec 32 := 5#32
  let v606 : BitVec 32 := Scalar.addi v2 c5_i32_385
  let c16_i32_386 : BitVec 32 := 16#32
  let c0_i32_387 : BitVec 32 := 0#32
  let v607 : BitVec 1 := Scalar.cmpi .eq c16_i32_386 c0_i32_387
  let c1_i32_388 : BitVec 32 := 1#32
  let v608 : BitVec 32 := Scalar.select v607 c1_i32_388 c16_i32_386
  let v609 : BitVec 32 := Scalar.remsi v606 v608
  let c0_i32_390 : BitVec 32 := 0#32
  let v611 : BitVec 1 := Scalar.cmpi .slt v609 c0_i32_390
  let c0_i32_391 : BitVec 32 := 0#32
  let v612 : BitVec 1 := Scalar.cmpi .slt v608 c0_i32_391
  let v613 : BitVec 1 := Scalar.xori v611 v612
  let c0_i32_389 : BitVec 32 := 0#32
  let v610 : BitVec 1 := Scalar.cmpi .ne v609 c0_i32_389
  let v614 : BitVec 1 := Scalar.andi v613 v610
  let v615 : BitVec 32 := Scalar.addi v609 v608
  let v616 : BitVec 32 := Scalar.select v614 v615 v609
  let c1_i32_400 : BitVec 32 := 1#32
  let v628 : BitVec 32 := Scalar.muli v616 c1_i32_400
  let v629 : BitVec 32 := Scalar.addi c0_i32_401 v628
  v629.toNat
def k0_dev22 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_405 : BitVec 32 := 6#32
  let v637 : BitVec 32 := Scalar.addi v2 c6_i32_405
  let c16_i32_406 : BitVec 32 := 16#32
  let c0_i32_407 : BitVec 32 := 0#32
  let v638 : BitVec 1 := Scalar.cmpi .eq c16_i32_406 c0_i32_407
  let c1_i32_408 : BitVec 32 := 1#32
  let v639 : BitVec 32 := Scalar.select v638 c1_i32_408 c16_i32_406
  let v640 : BitVec 32 := Scalar.remsi v637 v639
  let c0_i32_410 : BitVec 32 := 0#32
  let v642 : BitVec 1 := Scalar.cmpi .slt v640 c0_i32_410
  let c0_i32_411 : BitVec 32 := 0#32
  let v643 : BitVec 1 := Scalar.cmpi .slt v639 c0_i32_411
  let v644 : BitVec 1 := Scalar.xori v642 v643
  let c0_i32_409 : BitVec 32 := 0#32
  let v641 : BitVec 1 := Scalar.cmpi .ne v640 c0_i32_409
  let v645 : BitVec 1 := Scalar.andi v644 v641
  let v646 : BitVec 32 := Scalar.addi v640 v639
  let v647 : BitVec 32 := Scalar.select v645 v646 v640
  let c1_i32_420 : BitVec 32 := 1#32
  let v659 : BitVec 32 := Scalar.muli v647 c1_i32_420
  let v660 : BitVec 32 := Scalar.addi c0_i32_421 v659
  v660.toNat
def k0_dev23 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_425 : BitVec 32 := 7#32
  let v668 : BitVec 32 := Scalar.addi v2 c7_i32_425
  let c16_i32_426 : BitVec 32 := 16#32
  let c0_i32_427 : BitVec 32 := 0#32
  let v669 : BitVec 1 := Scalar.cmpi .eq c16_i32_426 c0_i32_427
  let c1_i32_428 : BitVec 32 := 1#32
  let v670 : BitVec 32 := Scalar.select v669 c1_i32_428 c16_i32_426
  let v671 : BitVec 32 := Scalar.remsi v668 v670
  let c0_i32_430 : BitVec 32 := 0#32
  let v673 : BitVec 1 := Scalar.cmpi .slt v671 c0_i32_430
  let c0_i32_431 : BitVec 32 := 0#32
  let v674 : BitVec 1 := Scalar.cmpi .slt v670 c0_i32_431
  let v675 : BitVec 1 := Scalar.xori v673 v674
  let c0_i32_429 : BitVec 32 := 0#32
  let v672 : BitVec 1 := Scalar.cmpi .ne v671 c0_i32_429
  let v676 : BitVec 1 := Scalar.andi v675 v672
  let v677 : BitVec 32 := Scalar.addi v671 v670
  let v678 : BitVec 32 := Scalar.select v676 v677 v671
  let c1_i32_440 : BitVec 32 := 1#32
  let v690 : BitVec 32 := Scalar.muli v678 c1_i32_440
  let v691 : BitVec 32 := Scalar.addi c0_i32_441 v690
  v691.toNat
def k0_dev24 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_445 : BitVec 32 := 8#32
  let v699 : BitVec 32 := Scalar.addi v2 c8_i32_445
  let c16_i32_446 : BitVec 32 := 16#32
  let c0_i32_447 : BitVec 32 := 0#32
  let v700 : BitVec 1 := Scalar.cmpi .eq c16_i32_446 c0_i32_447
  let c1_i32_448 : BitVec 32 := 1#32
  let v701 : BitVec 32 := Scalar.select v700 c1_i32_448 c16_i32_446
  let v702 : BitVec 32 := Scalar.remsi v699 v701
  let c0_i32_450 : BitVec 32 := 0#32
  let v704 : BitVec 1 := Scalar.cmpi .slt v702 c0_i32_450
  let c0_i32_451 : BitVec 32 := 0#32
  let v705 : BitVec 1 := Scalar.cmpi .slt v701 c0_i32_451
  let v706 : BitVec 1 := Scalar.xori v704 v705
  let c0_i32_449 : BitVec 32 := 0#32
  let v703 : BitVec 1 := Scalar.cmpi .ne v702 c0_i32_449
  let v707 : BitVec 1 := Scalar.andi v706 v703
  let v708 : BitVec 32 := Scalar.addi v702 v701
  let v709 : BitVec 32 := Scalar.select v707 v708 v702
  let c1_i32_460 : BitVec 32 := 1#32
  let v721 : BitVec 32 := Scalar.muli v709 c1_i32_460
  let v722 : BitVec 32 := Scalar.addi c0_i32_461 v721
  v722.toNat
def k0_dev25 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_465 : BitVec 32 := 9#32
  let v730 : BitVec 32 := Scalar.addi v2 c9_i32_465
  let c16_i32_466 : BitVec 32 := 16#32
  let c0_i32_467 : BitVec 32 := 0#32
  let v731 : BitVec 1 := Scalar.cmpi .eq c16_i32_466 c0_i32_467
  let c1_i32_468 : BitVec 32 := 1#32
  let v732 : BitVec 32 := Scalar.select v731 c1_i32_468 c16_i32_466
  let v733 : BitVec 32 := Scalar.remsi v730 v732
  let c0_i32_470 : BitVec 32 := 0#32
  let v735 : BitVec 1 := Scalar.cmpi .slt v733 c0_i32_470
  let c0_i32_471 : BitVec 32 := 0#32
  let v736 : BitVec 1 := Scalar.cmpi .slt v732 c0_i32_471
  let v737 : BitVec 1 := Scalar.xori v735 v736
  let c0_i32_469 : BitVec 32 := 0#32
  let v734 : BitVec 1 := Scalar.cmpi .ne v733 c0_i32_469
  let v738 : BitVec 1 := Scalar.andi v737 v734
  let v739 : BitVec 32 := Scalar.addi v733 v732
  let v740 : BitVec 32 := Scalar.select v738 v739 v733
  let c1_i32_480 : BitVec 32 := 1#32
  let v752 : BitVec 32 := Scalar.muli v740 c1_i32_480
  let v753 : BitVec 32 := Scalar.addi c0_i32_481 v752
  v753.toNat
def k0_dev26 (d0 : Dev nD) : Nat :=
  let c0_i32_501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_485 : BitVec 32 := 10#32
  let v761 : BitVec 32 := Scalar.addi v2 c10_i32_485
  let c16_i32_486 : BitVec 32 := 16#32
  let c0_i32_487 : BitVec 32 := 0#32
  let v762 : BitVec 1 := Scalar.cmpi .eq c16_i32_486 c0_i32_487
  let c1_i32_488 : BitVec 32 := 1#32
  let v763 : BitVec 32 := Scalar.select v762 c1_i32_488 c16_i32_486
  let v764 : BitVec 32 := Scalar.remsi v761 v763
  let c0_i32_490 : BitVec 32 := 0#32
  let v766 : BitVec 1 := Scalar.cmpi .slt v764 c0_i32_490
  let c0_i32_491 : BitVec 32 := 0#32
  let v767 : BitVec 1 := Scalar.cmpi .slt v763 c0_i32_491
  let v768 : BitVec 1 := Scalar.xori v766 v767
  let c0_i32_489 : BitVec 32 := 0#32
  let v765 : BitVec 1 := Scalar.cmpi .ne v764 c0_i32_489
  let v769 : BitVec 1 := Scalar.andi v768 v765
  let v770 : BitVec 32 := Scalar.addi v764 v763
  let v771 : BitVec 32 := Scalar.select v769 v770 v764
  let c1_i32_500 : BitVec 32 := 1#32
  let v783 : BitVec 32 := Scalar.muli v771 c1_i32_500
  let v784 : BitVec 32 := Scalar.addi c0_i32_501 v783
  v784.toNat
def k0_dev27 (d0 : Dev nD) : Nat :=
  let c0_i32_521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_505 : BitVec 32 := 11#32
  let v792 : BitVec 32 := Scalar.addi v2 c11_i32_505
  let c16_i32_506 : BitVec 32 := 16#32
  let c0_i32_507 : BitVec 32 := 0#32
  let v793 : BitVec 1 := Scalar.cmpi .eq c16_i32_506 c0_i32_507
  let c1_i32_508 : BitVec 32 := 1#32
  let v794 : BitVec 32 := Scalar.select v793 c1_i32_508 c16_i32_506
  let v795 : BitVec 32 := Scalar.remsi v792 v794
  let c0_i32_510 : BitVec 32 := 0#32
  let v797 : BitVec 1 := Scalar.cmpi .slt v795 c0_i32_510
  let c0_i32_511 : BitVec 32 := 0#32
  let v798 : BitVec 1 := Scalar.cmpi .slt v794 c0_i32_511
  let v799 : BitVec 1 := Scalar.xori v797 v798
  let c0_i32_509 : BitVec 32 := 0#32
  let v796 : BitVec 1 := Scalar.cmpi .ne v795 c0_i32_509
  let v800 : BitVec 1 := Scalar.andi v799 v796
  let v801 : BitVec 32 := Scalar.addi v795 v794
  let v802 : BitVec 32 := Scalar.select v800 v801 v795
  let c1_i32_520 : BitVec 32 := 1#32
  let v814 : BitVec 32 := Scalar.muli v802 c1_i32_520
  let v815 : BitVec 32 := Scalar.addi c0_i32_521 v814
  v815.toNat
def k0_dev28 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_525 : BitVec 32 := 12#32
  let v823 : BitVec 32 := Scalar.addi v2 c12_i32_525
  let c16_i32_526 : BitVec 32 := 16#32
  let c0_i32_527 : BitVec 32 := 0#32
  let v824 : BitVec 1 := Scalar.cmpi .eq c16_i32_526 c0_i32_527
  let c1_i32_528 : BitVec 32 := 1#32
  let v825 : BitVec 32 := Scalar.select v824 c1_i32_528 c16_i32_526
  let v826 : BitVec 32 := Scalar.remsi v823 v825
  let c0_i32_530 : BitVec 32 := 0#32
  let v828 : BitVec 1 := Scalar.cmpi .slt v826 c0_i32_530
  let c0_i32_531 : BitVec 32 := 0#32
  let v829 : BitVec 1 := Scalar.cmpi .slt v825 c0_i32_531
  let v830 : BitVec 1 := Scalar.xori v828 v829
  let c0_i32_529 : BitVec 32 := 0#32
  let v827 : BitVec 1 := Scalar.cmpi .ne v826 c0_i32_529
  let v831 : BitVec 1 := Scalar.andi v830 v827
  let v832 : BitVec 32 := Scalar.addi v826 v825
  let v833 : BitVec 32 := Scalar.select v831 v832 v826
  let c1_i32_540 : BitVec 32 := 1#32
  let v845 : BitVec 32 := Scalar.muli v833 c1_i32_540
  let v846 : BitVec 32 := Scalar.addi c0_i32_541 v845
  v846.toNat
def k0_dev29 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_545 : BitVec 32 := 13#32
  let v854 : BitVec 32 := Scalar.addi v2 c13_i32_545
  let c16_i32_546 : BitVec 32 := 16#32
  let c0_i32_547 : BitVec 32 := 0#32
  let v855 : BitVec 1 := Scalar.cmpi .eq c16_i32_546 c0_i32_547
  let c1_i32_548 : BitVec 32 := 1#32
  let v856 : BitVec 32 := Scalar.select v855 c1_i32_548 c16_i32_546
  let v857 : BitVec 32 := Scalar.remsi v854 v856
  let c0_i32_550 : BitVec 32 := 0#32
  let v859 : BitVec 1 := Scalar.cmpi .slt v857 c0_i32_550
  let c0_i32_551 : BitVec 32 := 0#32
  let v860 : BitVec 1 := Scalar.cmpi .slt v856 c0_i32_551
  let v861 : BitVec 1 := Scalar.xori v859 v860
  let c0_i32_549 : BitVec 32 := 0#32
  let v858 : BitVec 1 := Scalar.cmpi .ne v857 c0_i32_549
  let v862 : BitVec 1 := Scalar.andi v861 v858
  let v863 : BitVec 32 := Scalar.addi v857 v856
  let v864 : BitVec 32 := Scalar.select v862 v863 v857
  let c1_i32_560 : BitVec 32 := 1#32
  let v876 : BitVec 32 := Scalar.muli v864 c1_i32_560
  let v877 : BitVec 32 := Scalar.addi c0_i32_561 v876
  v877.toNat
def k0_dev30 (d0 : Dev nD) : Nat :=
  let c0_i32_581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_565 : BitVec 32 := 14#32
  let v885 : BitVec 32 := Scalar.addi v2 c14_i32_565
  let c16_i32_566 : BitVec 32 := 16#32
  let c0_i32_567 : BitVec 32 := 0#32
  let v886 : BitVec 1 := Scalar.cmpi .eq c16_i32_566 c0_i32_567
  let c1_i32_568 : BitVec 32 := 1#32
  let v887 : BitVec 32 := Scalar.select v886 c1_i32_568 c16_i32_566
  let v888 : BitVec 32 := Scalar.remsi v885 v887
  let c0_i32_570 : BitVec 32 := 0#32
  let v890 : BitVec 1 := Scalar.cmpi .slt v888 c0_i32_570
  let c0_i32_571 : BitVec 32 := 0#32
  let v891 : BitVec 1 := Scalar.cmpi .slt v887 c0_i32_571
  let v892 : BitVec 1 := Scalar.xori v890 v891
  let c0_i32_569 : BitVec 32 := 0#32
  let v889 : BitVec 1 := Scalar.cmpi .ne v888 c0_i32_569
  let v893 : BitVec 1 := Scalar.andi v892 v889
  let v894 : BitVec 32 := Scalar.addi v888 v887
  let v895 : BitVec 32 := Scalar.select v893 v894 v888
  let c1_i32_580 : BitVec 32 := 1#32
  let v907 : BitVec 32 := Scalar.muli v895 c1_i32_580
  let v908 : BitVec 32 := Scalar.addi c0_i32_581 v907
  v908.toNat
def k0_dev31 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_585 : BitVec 32 := 15#32
  let v916 : BitVec 32 := Scalar.addi v2 c15_i32_585
  let c16_i32_586 : BitVec 32 := 16#32
  let c0_i32_587 : BitVec 32 := 0#32
  let v917 : BitVec 1 := Scalar.cmpi .eq c16_i32_586 c0_i32_587
  let c1_i32_588 : BitVec 32 := 1#32
  let v918 : BitVec 32 := Scalar.select v917 c1_i32_588 c16_i32_586
  let v919 : BitVec 32 := Scalar.remsi v916 v918
  let c0_i32_590 : BitVec 32 := 0#32
  let v921 : BitVec 1 := Scalar.cmpi .slt v919 c0_i32_590
  let c0_i32_591 : BitVec 32 := 0#32
  let v922 : BitVec 1 := Scalar.cmpi .slt v918 c0_i32_591
  let v923 : BitVec 1 := Scalar.xori v921 v922
  let c0_i32_589 : BitVec 32 := 0#32
  let v920 : BitVec 1 := Scalar.cmpi .ne v919 c0_i32_589
  let v924 : BitVec 1 := Scalar.andi v923 v920
  let v925 : BitVec 32 := Scalar.addi v919 v918
  let v926 : BitVec 32 := Scalar.select v924 v925 v919
  let c1_i32_600 : BitVec 32 := 1#32
  let v938 : BitVec 32 := Scalar.muli v926 c1_i32_600
  let v939 : BitVec 32 := Scalar.addi c0_i32_601 v938
  v939.toNat
def k0_off6 (d0 : Dev nD) (c1_i32_614 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v958 : BitVec 32 := Scalar.subi v2 c1_i32_614
  let c16_i32_615 : BitVec 32 := 16#32
  let c0_i32_616 : BitVec 32 := 0#32
  let v959 : BitVec 1 := Scalar.cmpi .eq c16_i32_615 c0_i32_616
  let c1_i32_617 : BitVec 32 := 1#32
  let v960 : BitVec 32 := Scalar.select v959 c1_i32_617 c16_i32_615
  let v961 : BitVec 32 := Scalar.remsi v958 v960
  let c0_i32_619 : BitVec 32 := 0#32
  let v963 : BitVec 1 := Scalar.cmpi .slt v961 c0_i32_619
  let c0_i32_620 : BitVec 32 := 0#32
  let v964 : BitVec 1 := Scalar.cmpi .slt v960 c0_i32_620
  let v965 : BitVec 1 := Scalar.xori v963 v964
  let c0_i32_618 : BitVec 32 := 0#32
  let v962 : BitVec 1 := Scalar.cmpi .ne v961 c0_i32_618
  let v966 : BitVec 1 := Scalar.andi v965 v962
  let v967 : BitVec 32 := Scalar.addi v961 v960
  let v968 : BitVec 32 := Scalar.select v966 v967 v961
  let v969 : Index := Scalar.indexCast v968
  let c0_621 : Index := 0#32
  let c0_622 : Index := 0#32
  ![v969.toNat, 0, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_849 : BitVec 32 := 64#32
  let v1300 : BitVec 32 := Scalar.muli v2 c64_i32_849
  let v1302 : Index := Scalar.indexCast v1300
  let c0_852 : Index := 0#32
  ![v1302.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_849 : BitVec 32 := 64#32
  let v1300 : BitVec 32 := Scalar.muli v2 c64_i32_849
  let c0_i32_865 : BitVec 32 := 0#32
  ![v1300.toNat, 0]
def k0_dev32 (d0 : Dev nD) : Nat :=
  let c0_i32_864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_854 : BitVec 32 := 1#32
  let v1308 : BitVec 32 := Scalar.addi v2 c1_i32_854
  let c16_i32_855 : BitVec 32 := 16#32
  let c0_i32_856 : BitVec 32 := 0#32
  let v1309 : BitVec 1 := Scalar.cmpi .eq c16_i32_855 c0_i32_856
  let c1_i32_857 : BitVec 32 := 1#32
  let v1310 : BitVec 32 := Scalar.select v1309 c1_i32_857 c16_i32_855
  let v1311 : BitVec 32 := Scalar.remsi v1308 v1310
  let c0_i32_859 : BitVec 32 := 0#32
  let v1313 : BitVec 1 := Scalar.cmpi .slt v1311 c0_i32_859
  let c0_i32_860 : BitVec 32 := 0#32
  let v1314 : BitVec 1 := Scalar.cmpi .slt v1310 c0_i32_860
  let v1315 : BitVec 1 := Scalar.xori v1313 v1314
  let c0_i32_858 : BitVec 32 := 0#32
  let v1312 : BitVec 1 := Scalar.cmpi .ne v1311 c0_i32_858
  let v1316 : BitVec 1 := Scalar.andi v1315 v1312
  let v1317 : BitVec 32 := Scalar.addi v1311 v1310
  let v1318 : BitVec 32 := Scalar.select v1316 v1317 v1311
  let c1_i32_863 : BitVec 32 := 1#32
  let v1319 : BitVec 32 := Scalar.muli v1318 c1_i32_863
  let v1320 : BitVec 32 := Scalar.addi c0_i32_864 v1319
  v1320.toNat
def k0_dev33 (d0 : Dev nD) : Nat :=
  let c0_i32_876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_866 : BitVec 32 := 2#32
  let v1326 : BitVec 32 := Scalar.addi v2 c2_i32_866
  let c16_i32_867 : BitVec 32 := 16#32
  let c0_i32_868 : BitVec 32 := 0#32
  let v1327 : BitVec 1 := Scalar.cmpi .eq c16_i32_867 c0_i32_868
  let c1_i32_869 : BitVec 32 := 1#32
  let v1328 : BitVec 32 := Scalar.select v1327 c1_i32_869 c16_i32_867
  let v1329 : BitVec 32 := Scalar.remsi v1326 v1328
  let c0_i32_871 : BitVec 32 := 0#32
  let v1331 : BitVec 1 := Scalar.cmpi .slt v1329 c0_i32_871
  let c0_i32_872 : BitVec 32 := 0#32
  let v1332 : BitVec 1 := Scalar.cmpi .slt v1328 c0_i32_872
  let v1333 : BitVec 1 := Scalar.xori v1331 v1332
  let c0_i32_870 : BitVec 32 := 0#32
  let v1330 : BitVec 1 := Scalar.cmpi .ne v1329 c0_i32_870
  let v1334 : BitVec 1 := Scalar.andi v1333 v1330
  let v1335 : BitVec 32 := Scalar.addi v1329 v1328
  let v1336 : BitVec 32 := Scalar.select v1334 v1335 v1329
  let c1_i32_875 : BitVec 32 := 1#32
  let v1337 : BitVec 32 := Scalar.muli v1336 c1_i32_875
  let v1338 : BitVec 32 := Scalar.addi c0_i32_876 v1337
  v1338.toNat
def k0_dev34 (d0 : Dev nD) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_878 : BitVec 32 := 3#32
  let v1344 : BitVec 32 := Scalar.addi v2 c3_i32_878
  let c16_i32_879 : BitVec 32 := 16#32
  let c0_i32_880 : BitVec 32 := 0#32
  let v1345 : BitVec 1 := Scalar.cmpi .eq c16_i32_879 c0_i32_880
  let c1_i32_881 : BitVec 32 := 1#32
  let v1346 : BitVec 32 := Scalar.select v1345 c1_i32_881 c16_i32_879
  let v1347 : BitVec 32 := Scalar.remsi v1344 v1346
  let c0_i32_883 : BitVec 32 := 0#32
  let v1349 : BitVec 1 := Scalar.cmpi .slt v1347 c0_i32_883
  let c0_i32_884 : BitVec 32 := 0#32
  let v1350 : BitVec 1 := Scalar.cmpi .slt v1346 c0_i32_884
  let v1351 : BitVec 1 := Scalar.xori v1349 v1350
  let c0_i32_882 : BitVec 32 := 0#32
  let v1348 : BitVec 1 := Scalar.cmpi .ne v1347 c0_i32_882
  let v1352 : BitVec 1 := Scalar.andi v1351 v1348
  let v1353 : BitVec 32 := Scalar.addi v1347 v1346
  let v1354 : BitVec 32 := Scalar.select v1352 v1353 v1347
  let c1_i32_887 : BitVec 32 := 1#32
  let v1355 : BitVec 32 := Scalar.muli v1354 c1_i32_887
  let v1356 : BitVec 32 := Scalar.addi c0_i32_888 v1355
  v1356.toNat
def k0_dev35 (d0 : Dev nD) : Nat :=
  let c0_i32_900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_890 : BitVec 32 := 4#32
  let v1362 : BitVec 32 := Scalar.addi v2 c4_i32_890
  let c16_i32_891 : BitVec 32 := 16#32
  let c0_i32_892 : BitVec 32 := 0#32
  let v1363 : BitVec 1 := Scalar.cmpi .eq c16_i32_891 c0_i32_892
  let c1_i32_893 : BitVec 32 := 1#32
  let v1364 : BitVec 32 := Scalar.select v1363 c1_i32_893 c16_i32_891
  let v1365 : BitVec 32 := Scalar.remsi v1362 v1364
  let c0_i32_895 : BitVec 32 := 0#32
  let v1367 : BitVec 1 := Scalar.cmpi .slt v1365 c0_i32_895
  let c0_i32_896 : BitVec 32 := 0#32
  let v1368 : BitVec 1 := Scalar.cmpi .slt v1364 c0_i32_896
  let v1369 : BitVec 1 := Scalar.xori v1367 v1368
  let c0_i32_894 : BitVec 32 := 0#32
  let v1366 : BitVec 1 := Scalar.cmpi .ne v1365 c0_i32_894
  let v1370 : BitVec 1 := Scalar.andi v1369 v1366
  let v1371 : BitVec 32 := Scalar.addi v1365 v1364
  let v1372 : BitVec 32 := Scalar.select v1370 v1371 v1365
  let c1_i32_899 : BitVec 32 := 1#32
  let v1373 : BitVec 32 := Scalar.muli v1372 c1_i32_899
  let v1374 : BitVec 32 := Scalar.addi c0_i32_900 v1373
  v1374.toNat
def k0_dev36 (d0 : Dev nD) : Nat :=
  let c0_i32_912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_902 : BitVec 32 := 5#32
  let v1380 : BitVec 32 := Scalar.addi v2 c5_i32_902
  let c16_i32_903 : BitVec 32 := 16#32
  let c0_i32_904 : BitVec 32 := 0#32
  let v1381 : BitVec 1 := Scalar.cmpi .eq c16_i32_903 c0_i32_904
  let c1_i32_905 : BitVec 32 := 1#32
  let v1382 : BitVec 32 := Scalar.select v1381 c1_i32_905 c16_i32_903
  let v1383 : BitVec 32 := Scalar.remsi v1380 v1382
  let c0_i32_907 : BitVec 32 := 0#32
  let v1385 : BitVec 1 := Scalar.cmpi .slt v1383 c0_i32_907
  let c0_i32_908 : BitVec 32 := 0#32
  let v1386 : BitVec 1 := Scalar.cmpi .slt v1382 c0_i32_908
  let v1387 : BitVec 1 := Scalar.xori v1385 v1386
  let c0_i32_906 : BitVec 32 := 0#32
  let v1384 : BitVec 1 := Scalar.cmpi .ne v1383 c0_i32_906
  let v1388 : BitVec 1 := Scalar.andi v1387 v1384
  let v1389 : BitVec 32 := Scalar.addi v1383 v1382
  let v1390 : BitVec 32 := Scalar.select v1388 v1389 v1383
  let c1_i32_911 : BitVec 32 := 1#32
  let v1391 : BitVec 32 := Scalar.muli v1390 c1_i32_911
  let v1392 : BitVec 32 := Scalar.addi c0_i32_912 v1391
  v1392.toNat
def k0_dev37 (d0 : Dev nD) : Nat :=
  let c0_i32_924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_914 : BitVec 32 := 6#32
  let v1398 : BitVec 32 := Scalar.addi v2 c6_i32_914
  let c16_i32_915 : BitVec 32 := 16#32
  let c0_i32_916 : BitVec 32 := 0#32
  let v1399 : BitVec 1 := Scalar.cmpi .eq c16_i32_915 c0_i32_916
  let c1_i32_917 : BitVec 32 := 1#32
  let v1400 : BitVec 32 := Scalar.select v1399 c1_i32_917 c16_i32_915
  let v1401 : BitVec 32 := Scalar.remsi v1398 v1400
  let c0_i32_919 : BitVec 32 := 0#32
  let v1403 : BitVec 1 := Scalar.cmpi .slt v1401 c0_i32_919
  let c0_i32_920 : BitVec 32 := 0#32
  let v1404 : BitVec 1 := Scalar.cmpi .slt v1400 c0_i32_920
  let v1405 : BitVec 1 := Scalar.xori v1403 v1404
  let c0_i32_918 : BitVec 32 := 0#32
  let v1402 : BitVec 1 := Scalar.cmpi .ne v1401 c0_i32_918
  let v1406 : BitVec 1 := Scalar.andi v1405 v1402
  let v1407 : BitVec 32 := Scalar.addi v1401 v1400
  let v1408 : BitVec 32 := Scalar.select v1406 v1407 v1401
  let c1_i32_923 : BitVec 32 := 1#32
  let v1409 : BitVec 32 := Scalar.muli v1408 c1_i32_923
  let v1410 : BitVec 32 := Scalar.addi c0_i32_924 v1409
  v1410.toNat
def k0_dev38 (d0 : Dev nD) : Nat :=
  let c0_i32_936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_926 : BitVec 32 := 7#32
  let v1416 : BitVec 32 := Scalar.addi v2 c7_i32_926
  let c16_i32_927 : BitVec 32 := 16#32
  let c0_i32_928 : BitVec 32 := 0#32
  let v1417 : BitVec 1 := Scalar.cmpi .eq c16_i32_927 c0_i32_928
  let c1_i32_929 : BitVec 32 := 1#32
  let v1418 : BitVec 32 := Scalar.select v1417 c1_i32_929 c16_i32_927
  let v1419 : BitVec 32 := Scalar.remsi v1416 v1418
  let c0_i32_931 : BitVec 32 := 0#32
  let v1421 : BitVec 1 := Scalar.cmpi .slt v1419 c0_i32_931
  let c0_i32_932 : BitVec 32 := 0#32
  let v1422 : BitVec 1 := Scalar.cmpi .slt v1418 c0_i32_932
  let v1423 : BitVec 1 := Scalar.xori v1421 v1422
  let c0_i32_930 : BitVec 32 := 0#32
  let v1420 : BitVec 1 := Scalar.cmpi .ne v1419 c0_i32_930
  let v1424 : BitVec 1 := Scalar.andi v1423 v1420
  let v1425 : BitVec 32 := Scalar.addi v1419 v1418
  let v1426 : BitVec 32 := Scalar.select v1424 v1425 v1419
  let c1_i32_935 : BitVec 32 := 1#32
  let v1427 : BitVec 32 := Scalar.muli v1426 c1_i32_935
  let v1428 : BitVec 32 := Scalar.addi c0_i32_936 v1427
  v1428.toNat
def k0_dev39 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_938 : BitVec 32 := 8#32
  let v1434 : BitVec 32 := Scalar.addi v2 c8_i32_938
  let c16_i32_939 : BitVec 32 := 16#32
  let c0_i32_940 : BitVec 32 := 0#32
  let v1435 : BitVec 1 := Scalar.cmpi .eq c16_i32_939 c0_i32_940
  let c1_i32_941 : BitVec 32 := 1#32
  let v1436 : BitVec 32 := Scalar.select v1435 c1_i32_941 c16_i32_939
  let v1437 : BitVec 32 := Scalar.remsi v1434 v1436
  let c0_i32_943 : BitVec 32 := 0#32
  let v1439 : BitVec 1 := Scalar.cmpi .slt v1437 c0_i32_943
  let c0_i32_944 : BitVec 32 := 0#32
  let v1440 : BitVec 1 := Scalar.cmpi .slt v1436 c0_i32_944
  let v1441 : BitVec 1 := Scalar.xori v1439 v1440
  let c0_i32_942 : BitVec 32 := 0#32
  let v1438 : BitVec 1 := Scalar.cmpi .ne v1437 c0_i32_942
  let v1442 : BitVec 1 := Scalar.andi v1441 v1438
  let v1443 : BitVec 32 := Scalar.addi v1437 v1436
  let v1444 : BitVec 32 := Scalar.select v1442 v1443 v1437
  let c1_i32_947 : BitVec 32 := 1#32
  let v1445 : BitVec 32 := Scalar.muli v1444 c1_i32_947
  let v1446 : BitVec 32 := Scalar.addi c0_i32_948 v1445
  v1446.toNat
def k0_dev40 (d0 : Dev nD) : Nat :=
  let c0_i32_960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_950 : BitVec 32 := 9#32
  let v1452 : BitVec 32 := Scalar.addi v2 c9_i32_950
  let c16_i32_951 : BitVec 32 := 16#32
  let c0_i32_952 : BitVec 32 := 0#32
  let v1453 : BitVec 1 := Scalar.cmpi .eq c16_i32_951 c0_i32_952
  let c1_i32_953 : BitVec 32 := 1#32
  let v1454 : BitVec 32 := Scalar.select v1453 c1_i32_953 c16_i32_951
  let v1455 : BitVec 32 := Scalar.remsi v1452 v1454
  let c0_i32_955 : BitVec 32 := 0#32
  let v1457 : BitVec 1 := Scalar.cmpi .slt v1455 c0_i32_955
  let c0_i32_956 : BitVec 32 := 0#32
  let v1458 : BitVec 1 := Scalar.cmpi .slt v1454 c0_i32_956
  let v1459 : BitVec 1 := Scalar.xori v1457 v1458
  let c0_i32_954 : BitVec 32 := 0#32
  let v1456 : BitVec 1 := Scalar.cmpi .ne v1455 c0_i32_954
  let v1460 : BitVec 1 := Scalar.andi v1459 v1456
  let v1461 : BitVec 32 := Scalar.addi v1455 v1454
  let v1462 : BitVec 32 := Scalar.select v1460 v1461 v1455
  let c1_i32_959 : BitVec 32 := 1#32
  let v1463 : BitVec 32 := Scalar.muli v1462 c1_i32_959
  let v1464 : BitVec 32 := Scalar.addi c0_i32_960 v1463
  v1464.toNat
def k0_dev41 (d0 : Dev nD) : Nat :=
  let c0_i32_972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_962 : BitVec 32 := 10#32
  let v1470 : BitVec 32 := Scalar.addi v2 c10_i32_962
  let c16_i32_963 : BitVec 32 := 16#32
  let c0_i32_964 : BitVec 32 := 0#32
  let v1471 : BitVec 1 := Scalar.cmpi .eq c16_i32_963 c0_i32_964
  let c1_i32_965 : BitVec 32 := 1#32
  let v1472 : BitVec 32 := Scalar.select v1471 c1_i32_965 c16_i32_963
  let v1473 : BitVec 32 := Scalar.remsi v1470 v1472
  let c0_i32_967 : BitVec 32 := 0#32
  let v1475 : BitVec 1 := Scalar.cmpi .slt v1473 c0_i32_967
  let c0_i32_968 : BitVec 32 := 0#32
  let v1476 : BitVec 1 := Scalar.cmpi .slt v1472 c0_i32_968
  let v1477 : BitVec 1 := Scalar.xori v1475 v1476
  let c0_i32_966 : BitVec 32 := 0#32
  let v1474 : BitVec 1 := Scalar.cmpi .ne v1473 c0_i32_966
  let v1478 : BitVec 1 := Scalar.andi v1477 v1474
  let v1479 : BitVec 32 := Scalar.addi v1473 v1472
  let v1480 : BitVec 32 := Scalar.select v1478 v1479 v1473
  let c1_i32_971 : BitVec 32 := 1#32
  let v1481 : BitVec 32 := Scalar.muli v1480 c1_i32_971
  let v1482 : BitVec 32 := Scalar.addi c0_i32_972 v1481
  v1482.toNat
def k0_dev42 (d0 : Dev nD) : Nat :=
  let c0_i32_984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_974 : BitVec 32 := 11#32
  let v1488 : BitVec 32 := Scalar.addi v2 c11_i32_974
  let c16_i32_975 : BitVec 32 := 16#32
  let c0_i32_976 : BitVec 32 := 0#32
  let v1489 : BitVec 1 := Scalar.cmpi .eq c16_i32_975 c0_i32_976
  let c1_i32_977 : BitVec 32 := 1#32
  let v1490 : BitVec 32 := Scalar.select v1489 c1_i32_977 c16_i32_975
  let v1491 : BitVec 32 := Scalar.remsi v1488 v1490
  let c0_i32_979 : BitVec 32 := 0#32
  let v1493 : BitVec 1 := Scalar.cmpi .slt v1491 c0_i32_979
  let c0_i32_980 : BitVec 32 := 0#32
  let v1494 : BitVec 1 := Scalar.cmpi .slt v1490 c0_i32_980
  let v1495 : BitVec 1 := Scalar.xori v1493 v1494
  let c0_i32_978 : BitVec 32 := 0#32
  let v1492 : BitVec 1 := Scalar.cmpi .ne v1491 c0_i32_978
  let v1496 : BitVec 1 := Scalar.andi v1495 v1492
  let v1497 : BitVec 32 := Scalar.addi v1491 v1490
  let v1498 : BitVec 32 := Scalar.select v1496 v1497 v1491
  let c1_i32_983 : BitVec 32 := 1#32
  let v1499 : BitVec 32 := Scalar.muli v1498 c1_i32_983
  let v1500 : BitVec 32 := Scalar.addi c0_i32_984 v1499
  v1500.toNat
def k0_dev43 (d0 : Dev nD) : Nat :=
  let c0_i32_996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_986 : BitVec 32 := 12#32
  let v1506 : BitVec 32 := Scalar.addi v2 c12_i32_986
  let c16_i32_987 : BitVec 32 := 16#32
  let c0_i32_988 : BitVec 32 := 0#32
  let v1507 : BitVec 1 := Scalar.cmpi .eq c16_i32_987 c0_i32_988
  let c1_i32_989 : BitVec 32 := 1#32
  let v1508 : BitVec 32 := Scalar.select v1507 c1_i32_989 c16_i32_987
  let v1509 : BitVec 32 := Scalar.remsi v1506 v1508
  let c0_i32_991 : BitVec 32 := 0#32
  let v1511 : BitVec 1 := Scalar.cmpi .slt v1509 c0_i32_991
  let c0_i32_992 : BitVec 32 := 0#32
  let v1512 : BitVec 1 := Scalar.cmpi .slt v1508 c0_i32_992
  let v1513 : BitVec 1 := Scalar.xori v1511 v1512
  let c0_i32_990 : BitVec 32 := 0#32
  let v1510 : BitVec 1 := Scalar.cmpi .ne v1509 c0_i32_990
  let v1514 : BitVec 1 := Scalar.andi v1513 v1510
  let v1515 : BitVec 32 := Scalar.addi v1509 v1508
  let v1516 : BitVec 32 := Scalar.select v1514 v1515 v1509
  let c1_i32_995 : BitVec 32 := 1#32
  let v1517 : BitVec 32 := Scalar.muli v1516 c1_i32_995
  let v1518 : BitVec 32 := Scalar.addi c0_i32_996 v1517
  v1518.toNat
def k0_dev44 (d0 : Dev nD) : Nat :=
  let c0_i32_1008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_998 : BitVec 32 := 13#32
  let v1524 : BitVec 32 := Scalar.addi v2 c13_i32_998
  let c16_i32_999 : BitVec 32 := 16#32
  let c0_i32_1000 : BitVec 32 := 0#32
  let v1525 : BitVec 1 := Scalar.cmpi .eq c16_i32_999 c0_i32_1000
  let c1_i32_1001 : BitVec 32 := 1#32
  let v1526 : BitVec 32 := Scalar.select v1525 c1_i32_1001 c16_i32_999
  let v1527 : BitVec 32 := Scalar.remsi v1524 v1526
  let c0_i32_1003 : BitVec 32 := 0#32
  let v1529 : BitVec 1 := Scalar.cmpi .slt v1527 c0_i32_1003
  let c0_i32_1004 : BitVec 32 := 0#32
  let v1530 : BitVec 1 := Scalar.cmpi .slt v1526 c0_i32_1004
  let v1531 : BitVec 1 := Scalar.xori v1529 v1530
  let c0_i32_1002 : BitVec 32 := 0#32
  let v1528 : BitVec 1 := Scalar.cmpi .ne v1527 c0_i32_1002
  let v1532 : BitVec 1 := Scalar.andi v1531 v1528
  let v1533 : BitVec 32 := Scalar.addi v1527 v1526
  let v1534 : BitVec 32 := Scalar.select v1532 v1533 v1527
  let c1_i32_1007 : BitVec 32 := 1#32
  let v1535 : BitVec 32 := Scalar.muli v1534 c1_i32_1007
  let v1536 : BitVec 32 := Scalar.addi c0_i32_1008 v1535
  v1536.toNat
def k0_dev45 (d0 : Dev nD) : Nat :=
  let c0_i32_1020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1010 : BitVec 32 := 14#32
  let v1542 : BitVec 32 := Scalar.addi v2 c14_i32_1010
  let c16_i32_1011 : BitVec 32 := 16#32
  let c0_i32_1012 : BitVec 32 := 0#32
  let v1543 : BitVec 1 := Scalar.cmpi .eq c16_i32_1011 c0_i32_1012
  let c1_i32_1013 : BitVec 32 := 1#32
  let v1544 : BitVec 32 := Scalar.select v1543 c1_i32_1013 c16_i32_1011
  let v1545 : BitVec 32 := Scalar.remsi v1542 v1544
  let c0_i32_1015 : BitVec 32 := 0#32
  let v1547 : BitVec 1 := Scalar.cmpi .slt v1545 c0_i32_1015
  let c0_i32_1016 : BitVec 32 := 0#32
  let v1548 : BitVec 1 := Scalar.cmpi .slt v1544 c0_i32_1016
  let v1549 : BitVec 1 := Scalar.xori v1547 v1548
  let c0_i32_1014 : BitVec 32 := 0#32
  let v1546 : BitVec 1 := Scalar.cmpi .ne v1545 c0_i32_1014
  let v1550 : BitVec 1 := Scalar.andi v1549 v1546
  let v1551 : BitVec 32 := Scalar.addi v1545 v1544
  let v1552 : BitVec 32 := Scalar.select v1550 v1551 v1545
  let c1_i32_1019 : BitVec 32 := 1#32
  let v1553 : BitVec 32 := Scalar.muli v1552 c1_i32_1019
  let v1554 : BitVec 32 := Scalar.addi c0_i32_1020 v1553
  v1554.toNat
def k0_dev46 (d0 : Dev nD) : Nat :=
  let c0_i32_1032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1022 : BitVec 32 := 15#32
  let v1560 : BitVec 32 := Scalar.addi v2 c15_i32_1022
  let c16_i32_1023 : BitVec 32 := 16#32
  let c0_i32_1024 : BitVec 32 := 0#32
  let v1561 : BitVec 1 := Scalar.cmpi .eq c16_i32_1023 c0_i32_1024
  let c1_i32_1025 : BitVec 32 := 1#32
  let v1562 : BitVec 32 := Scalar.select v1561 c1_i32_1025 c16_i32_1023
  let v1563 : BitVec 32 := Scalar.remsi v1560 v1562
  let c0_i32_1027 : BitVec 32 := 0#32
  let v1565 : BitVec 1 := Scalar.cmpi .slt v1563 c0_i32_1027
  let c0_i32_1028 : BitVec 32 := 0#32
  let v1566 : BitVec 1 := Scalar.cmpi .slt v1562 c0_i32_1028
  let v1567 : BitVec 1 := Scalar.xori v1565 v1566
  let c0_i32_1026 : BitVec 32 := 0#32
  let v1564 : BitVec 1 := Scalar.cmpi .ne v1563 c0_i32_1026
  let v1568 : BitVec 1 := Scalar.andi v1567 v1564
  let v1569 : BitVec 32 := Scalar.addi v1563 v1562
  let v1570 : BitVec 32 := Scalar.select v1568 v1569 v1563
  let c1_i32_1031 : BitVec 32 := 1#32
  let v1571 : BitVec 32 := Scalar.muli v1570 c1_i32_1031
  let v1572 : BitVec 32 := Scalar.addi c0_i32_1032 v1571
  v1572.toNat
def k0_off9 (d0 : Dev nD) (c1_i32_1129 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1658 : BitVec 32 := Scalar.subi v2 c1_i32_1129
  let c16_i32_1130 : BitVec 32 := 16#32
  let c0_i32_1131 : BitVec 32 := 0#32
  let v1659 : BitVec 1 := Scalar.cmpi .eq c16_i32_1130 c0_i32_1131
  let c1_i32_1132 : BitVec 32 := 1#32
  let v1660 : BitVec 32 := Scalar.select v1659 c1_i32_1132 c16_i32_1130
  let v1661 : BitVec 32 := Scalar.remsi v1658 v1660
  let c0_i32_1134 : BitVec 32 := 0#32
  let v1663 : BitVec 1 := Scalar.cmpi .slt v1661 c0_i32_1134
  let c0_i32_1135 : BitVec 32 := 0#32
  let v1664 : BitVec 1 := Scalar.cmpi .slt v1660 c0_i32_1135
  let v1665 : BitVec 1 := Scalar.xori v1663 v1664
  let c0_i32_1133 : BitVec 32 := 0#32
  let v1662 : BitVec 1 := Scalar.cmpi .ne v1661 c0_i32_1133
  let v1666 : BitVec 1 := Scalar.andi v1665 v1662
  let v1667 : BitVec 32 := Scalar.addi v1661 v1660
  let v1668 : BitVec 32 := Scalar.select v1666 v1667 v1661
  let c64_i32_1136 : BitVec 32 := 64#32
  let v1669 : BitVec 32 := Scalar.muli v1668 c64_i32_1136
  let v1670 : Index := Scalar.indexCast v1669
  let c0_1137 : Index := 0#32
  ![v1670.toNat, 0]
abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S2x512x8192 : Shape := ⟨3, ![2, 512, 8192]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x128x512x512 : Shape := ⟨4, ![2, 128, 512, 512]⟩
abbrev S1x1x512x512 : Shape := ⟨4, ![1, 1, 512, 512]⟩
abbrev S2x128x512 : Shape := ⟨3, ![2, 128, 512]⟩
abbrev S2x128x512x1 : Shape := ⟨4, ![2, 128, 512, 1]⟩
abbrev S1x1x512x1 : Shape := ⟨4, ![1, 1, 512, 1]⟩
abbrev S2x128x64x512 : Shape := ⟨4, ![2, 128, 64, 512]⟩

abbrev nBuf : Space → Nat
  | .hbm => 128
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x8192, .bf16⟩
  | .hbm, ⟨2, _⟩ => ⟨S2x512x128x64, .bf16⟩
  | .hbm, ⟨3, _⟩ => ⟨S2x512x128x64, .bf16⟩
  | .hbm, ⟨4, _⟩ => ⟨S8192x768, .bf16⟩
  | .hbm, ⟨5, _⟩ => ⟨S2x512x768, .f32⟩
  | .hbm, ⟨6, _⟩ => ⟨S768x8192, .f32⟩
  | .hbm, ⟨7, _⟩ => ⟨S2x512x128x64, .f32⟩
  | .hbm, ⟨8, _⟩ => ⟨S2x512x128x64, .f32⟩
  | .hbm, ⟨9, _⟩ => ⟨S8192x768, .f32⟩
  | .hbm, ⟨10, _⟩ => ⟨S2x512x8192, .f32⟩
  | .hbm, ⟨11, _⟩ => ⟨S2x512x128x64, .f32⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512, .i32⟩
  | .hbm, ⟨33, _⟩ => ⟨S_, .i32⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i32⟩
  | .hbm, ⟨42, _⟩ => ⟨S512, .i32⟩
  | .hbm, ⟨43, _⟩ => ⟨S_, .i32⟩
  | .hbm, ⟨44, _⟩ => ⟨S512, .i32⟩
  | .hbm, ⟨45, _⟩ => ⟨S512, .i1⟩
  | .hbm, ⟨46, _⟩ => ⟨S512, .i1⟩
  | .hbm, ⟨47, _⟩ => ⟨S_, .i32⟩
  | .hbm, ⟨48, _⟩ => ⟨S512, .i32⟩
  | .hbm, ⟨49, _⟩ => ⟨S512, .i32⟩
  | .hbm, ⟨50, _⟩ => ⟨S512, .i32⟩
  | .hbm, ⟨51, _⟩ => ⟨S1x512, .i32⟩
  | .hbm, ⟨52, _⟩ => ⟨S512x512, .i32⟩
  | .hbm, ⟨53, _⟩ => ⟨S512x512, .i32⟩
  | .hbm, ⟨54, _⟩ => ⟨S512x512, .i1⟩
  | .hbm, ⟨55, _⟩ => ⟨S_, .i32⟩
  | .hbm, ⟨56, _⟩ => ⟨S1x512, .i32⟩
  | .hbm, ⟨57, _⟩ => ⟨S1x512, .i1⟩
  | .hbm, ⟨58, _⟩ => ⟨S512x512, .i1⟩
  | .hbm, ⟨59, _⟩ => ⟨S512x512, .i1⟩
  | .hbm, ⟨60, _⟩ => ⟨S512x512, .i32⟩
  | .hbm, ⟨61, _⟩ => ⟨S512x512, .i32⟩
  | .hbm, ⟨62, _⟩ => ⟨S512x512, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S512x512, .i32⟩
  | .hbm, ⟨70, _⟩ => ⟨S512x512, .i32⟩
  | .hbm, ⟨71, _⟩ => ⟨S_, .i32⟩
  | .hbm, ⟨72, _⟩ => ⟨S512x512, .i32⟩
  | .hbm, ⟨73, _⟩ => ⟨S512x512, .i1⟩
  | .hbm, ⟨74, _⟩ => ⟨S_, .i32⟩
  | .hbm, ⟨75, _⟩ => ⟨S512x512, .i32⟩
  | .hbm, ⟨76, _⟩ => ⟨S512x512, .i1⟩
  | .hbm, ⟨77, _⟩ => ⟨S_, .i32⟩
  | .hbm, ⟨78, _⟩ => ⟨S_, .i1⟩
  | .hbm, ⟨79, _⟩ => ⟨S512x512, .i1⟩
  | .hbm, ⟨80, _⟩ => ⟨S512x512, .i1⟩
  | .hbm, ⟨81, _⟩ => ⟨S512x512, .i1⟩
  | .hbm, ⟨82, _⟩ => ⟨S512x512, .i32⟩
  | .hbm, ⟨83, _⟩ => ⟨S512x512, .i32⟩
  | .hbm, ⟨84, _⟩ => ⟨S512x512, .i32⟩
  | .hbm, ⟨85, _⟩ => ⟨S_, .i32⟩
  | .hbm, ⟨86, _⟩ => ⟨S512x512, .i32⟩
  | .hbm, ⟨87, _⟩ => ⟨S512x512, .i1⟩
  | .hbm, ⟨88, _⟩ => ⟨S512x512, .i1⟩
  | .hbm, ⟨89, _⟩ => ⟨S2x128x512x512, .f32⟩
  | .hbm, ⟨90, _⟩ => ⟨S_, .f32⟩
  | .hbm, ⟨91, _⟩ => ⟨S2x128x512x512, .f32⟩
  | .hbm, ⟨92, _⟩ => ⟨S2x128x512x512, .f32⟩
  | .hbm, ⟨93, _⟩ => ⟨S1x1x512x512, .i1⟩
  | .hbm, ⟨94, _⟩ => ⟨S_, .f32⟩
  | .hbm, ⟨95, _⟩ => ⟨S_, .f32⟩
  | .hbm, ⟨96, _⟩ => ⟨S2x128x512x512, .i1⟩
  | .hbm, ⟨97, _⟩ => ⟨S2x128x512x512, .f32⟩
  | .hbm, ⟨98, _⟩ => ⟨S2x128x512x512, .f32⟩
  | .hbm, ⟨99, _⟩ => ⟨S_, .f32⟩
  | .hbm, ⟨100, _⟩ => ⟨S2x128x512, .f32⟩
  | .hbm, ⟨101, _⟩ => ⟨S2x128x512x1, .f32⟩
  | .hbm, ⟨102, _⟩ => ⟨S2x128x512x512, .f32⟩
  | .hbm, ⟨103, _⟩ => ⟨S2x128x512x512, .f32⟩
  | .hbm, ⟨104, _⟩ => ⟨S2x128x512x512, .f32⟩
  | .hbm, ⟨105, _⟩ => ⟨S_, .i1⟩
  | .hbm, ⟨106, _⟩ => ⟨S512, .i1⟩
  | .hbm, ⟨107, _⟩ => ⟨S1x1x512x1, .i1⟩
  | .hbm, ⟨108, _⟩ => ⟨S_, .f32⟩
  | .hbm, ⟨109, _⟩ => ⟨S2x128x512, .f32⟩
  | .hbm, ⟨110, _⟩ => ⟨S2x128x512x1, .f32⟩
  | .hbm, ⟨111, _⟩ => ⟨S_, .f32⟩
  | .hbm, ⟨112, _⟩ => ⟨S_, .f32⟩
  | .hbm, ⟨113, _⟩ => ⟨S2x128x512x1, .i1⟩
  | .hbm, ⟨114, _⟩ => ⟨S2x128x512x1, .f32⟩
  | .hbm, ⟨115, _⟩ => ⟨S2x128x512x1, .f32⟩
  | .hbm, ⟨116, _⟩ => ⟨S2x128x512x512, .f32⟩
  | .hbm, ⟨117, _⟩ => ⟨S2x128x512x512, .f32⟩
  | .hbm, ⟨118, _⟩ => ⟨S1x1x512x1, .i1⟩
  | .hbm, ⟨119, _⟩ => ⟨S_, .f32⟩
  | .hbm, ⟨120, _⟩ => ⟨S_, .f32⟩
  | .hbm, ⟨121, _⟩ => ⟨S2x128x512x512, .i1⟩
  | .hbm, ⟨122, _⟩ => ⟨S2x128x512x512, .f32⟩
  | .hbm, ⟨123, _⟩ => ⟨S2x128x512x512, .f32⟩
  | .hbm, ⟨124, _⟩ => ⟨S2x128x64x512, .f32⟩
  | .hbm, ⟨125, _⟩ => ⟨S2x512x128x64, .f32⟩
  | .hbm, ⟨126, _⟩ => ⟨S2x512x8192, .f32⟩
  | .hbm, ⟨127, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Launch
public import proofs.«01_k».proof.Proof.Gen.KernelIdeal.Points

@[expose] public section

noncomputable section

/-! # The kernel's body as loops

The printed body is straight-line text: sixteen signals, sixteen heads, fifteen sends, and so on. Here it is
written once per step over a list of indices; `body_eq` says that the two are the same program. -/

namespace Cert.KernelIdeal.Ring

open Idealize.ShloMosaic Idealize.ShloMosaic.TcCoe Idealize.SL.Sem
open Cert.KernelIdeal.Gen

variable {F : FTy → Type} [FloatOps F] [Named F]

/-- Programs of the TensorCore. -/
abbrev P (F : FTy → Type) (α : Type) := Prog (TpuEff nD τ sig (Elt F) Λ₀ .tc) α

/-- Run a step at every index of a list, in order. -/
def each {α : Type} (f : α → P F PUnit) : List α → P F PUnit
  | [] => pure ⟨⟩
  | a :: l => f a >>= fun _ => each f l

/-- Thread a value through a step at every index of a list, in order. -/
def thread {α β : Type} (f : β → α → P F β) : β → List α → P F β
  | b, [] => pure b
  | b, a :: l => f b a >>= fun b' => thread f b' l

/-- The mesh's devices in order. -/
def devs : List (Dev nD) := [0, 1, 2, 3, 4, 5, 6, 7, 8, 9, 10, 11, 12, 13, 14, 15]

/-- The fifteen hops to another device, in order (index `o` is hop `o + 1`). -/
def hops : List (Fin 15) := [0, 1, 2, 3, 4, 5, 6, 7, 8, 9, 10, 11, 12, 13, 14]

/-- The sixteen attention heads of one device: batch and head, in order. -/
def heads : List (Fin 2 × Fin 8) :=
  [(0, 0), (0, 1), (0, 2), (0, 3), (0, 4), (0, 5), (0, 6), (0, 7), (1, 0), (1, 1), (1, 2), (1, 3), (1, 4), (1, 5), (1, 6), (1, 7)]

abbrev mX : Memref sig .tc .vmem S1024x768 .bf16 := win0_0.stage 0
abbrev mWq : Memref sig .tc .vmem S768x512 .bf16 := win0_1.stage 0
abbrev mK : Memref sig .tc .vmem S1024x512 .bf16 := win0_2.stage 0
abbrev mV : Memref sig .tc .vmem S1024x512 .bf16 := win0_3.stage 0
abbrev mWo : Memref sig .tc .vmem S512x768 .bf16 := win0_4.stage 0
abbrev mOut : Memref sig .tc .vmem S1024x768 .f32 := win0_5.stage 0
abbrev mXb : Memref sig .tc .vmem S1024x768 .bf16 := Memref.whole cc0_scratch0
abbrev mKb : Memref sig .tc .vmem S1024x512 .bf16 := Memref.whole cc0_scratch1
abbrev mVb : Memref sig .tc .vmem S1024x512 .bf16 := Memref.whole cc0_scratch2
abbrev mQ : Memref sig .tc .vmem S1024x512 .bf16 := Memref.whole cc0_scratch3
abbrev mCtx : Memref sig .tc .vmem S1024x512 .bf16 := Memref.whole cc0_scratch4
abbrev mPart : Memref sig .tc .vmem S1024x768 .bf16 := Memref.whole cc0_scratch5
abbrev mRed : Memref sig .tc .vmem S64x768 .bf16 := Memref.whole cc0_scratch6
abbrev mSlots : Memref sig .tc .vmem S16x64x768 .bf16 := Memref.whole cc0_scratch7
abbrev mAg : Memref sig .tc .vmem S1024x768 .bf16 := Memref.whole cc0_scratch8

theorem wPart : mPart.IsWhole := Memref.isWhole_whole _
theorem wRed : mRed.IsWhole := Memref.isWhole_whole _
theorem wSlots : mSlots.IsWhole := Memref.isWhole_whole _
theorem wAg : mAg.IsWhole := Memref.isWhole_whole _
theorem wCtx : mCtx.IsWhole := Memref.isWhole_whole _

/-- The word of hop `o`: `o + 1`. -/
abbrev hopW (o : Fin 15) : BitVec 32 := BitVec.ofNat 32 (1 + o.val)

/-- The device `w` places after `d0` on the ring, as the kernel computes it. -/
def ringDev (d0 : Dev nD) (w : BitVec 32) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_305 : BitVec 32 := w
  let v482 : BitVec 32 := Scalar.addi v2 c1_i32_305
  let c16_i32_306 : BitVec 32 := 16#32
  let c0_i32_307 : BitVec 32 := 0#32
  let v483 : BitVec 1 := Scalar.cmpi .eq c16_i32_306 c0_i32_307
  let c1_i32_308 : BitVec 32 := 1#32
  let v484 : BitVec 32 := Scalar.select v483 c1_i32_308 c16_i32_306
  let v485 : BitVec 32 := Scalar.remsi v482 v484
  let c0_i32_310 : BitVec 32 := 0#32
  let v487 : BitVec 1 := Scalar.cmpi .slt v485 c0_i32_310
  let c0_i32_311 : BitVec 32 := 0#32
  let v488 : BitVec 1 := Scalar.cmpi .slt v484 c0_i32_311
  let v489 : BitVec 1 := Scalar.xori v487 v488
  let c0_i32_309 : BitVec 32 := 0#32
  let v486 : BitVec 1 := Scalar.cmpi .ne v485 c0_i32_309
  let v490 : BitVec 1 := Scalar.andi v489 v486
  let v491 : BitVec 32 := Scalar.addi v485 v484
  let v492 : BitVec 32 := Scalar.select v490 v491 v485
  let c1_i32_320 : BitVec 32 := 1#32
  let v504 : BitVec 32 := Scalar.muli v492 c1_i32_320
  let v505 : BitVec 32 := Scalar.addi c0_i32_321 v504
  v505.toNat

theorem ringDev_lt : ∀ (d0 : Dev nD) (o : Fin 15), ringDev d0 (hopW o) < nD := by decide +kernel

/-- The device `o + 1` places after `d0`. -/
abbrev next (d0 : Dev nD) (o : Fin 15) : Dev nD := ⟨ringDev d0 (hopW o), ringDev_lt d0 o⟩

theorem inb_sem : ∀ o : Fin 15, ∀ a, (![o.val] : Fin 1 → Nat) a + S1.size a ≤ S15.size a := by decide

/-- Semaphore `o` of an array of fifteen. -/
abbrev semAt (s : DmaSems sig S15) (o : Fin 15) : DmaSem sig :=
  ((s.slice (Rect.unit (s := S15) ![o.val] S1.size (inb_sem o))).squeeze S_ squeezes_S1_S_).sem

theorem inb_head : ∀ i : Fin 2 × Fin 8, ∀ a,
    (![512 * i.1.val, 64 * i.2.val] : Fin 2 → Nat) a + S512x64.size a ≤ S1024x512.size a := by decide

/-- The rows of batch `i.1` and the columns of head `i.2`. -/
abbrev headR (i : Fin 2 × Fin 8) : Rect S1024x512 :=
  Rect.unit (s := S1024x512) ![512 * i.1.val, 64 * i.2.val] S512x64.size (inb_head i)

theorem packed_head : ∀ i : Fin 2 × Fin 8, (headR i).PackedRows (EltTy.packing .bf16) := by decide

/-- The whole of a block. -/
abbrev allX : Rect S1024x768 := Rect.unit (s := S1024x768) ![0, 0] S1024x768.size inb_S1024x768_S1024x768_0_0
abbrev allK : Rect S1024x512 := Rect.unit (s := S1024x512) ![0, 0] S1024x512.size inb_S1024x512_S1024x512_0_0
abbrev allWq : Rect S768x512 := Rect.unit (s := S768x512) ![0, 0] S768x512.size inb_S768x512_S768x512_0_0
abbrev allWo : Rect S512x768 := Rect.unit (s := S512x768) ![0, 0] S512x768.size inb_S512x768_S512x768_0_0
abbrev allRed : Rect S64x768 := Rect.unit (s := S64x768) ![0, 0] S64x768.size inb_S64x768_S64x768_0_0

/-- The rectangles of the exchange: the rows of the context and of the partial products `r` chunks after `d`'s own,
    `d`'s slot and `d`'s rows, and the slot and the rows of the device a hop before. -/
abbrev ctxR (d : Dev nD) (r : Fin 16) : Rect S1024x512 :=
  Rect.unit (s := S1024x512) (k0_off1 d (BitVec.ofNat 32 r.val)) S64x512.size (k0_off1_inb d r)
abbrev partR (d : Dev nD) (r : Fin 16) : Rect S1024x768 :=
  Rect.unit (s := S1024x768) (k0_off2 d (BitVec.ofNat 32 r.val)) S64x768.size (k0_off2_inb d r)
abbrev ownSlotR (d : Dev nD) : Rect S16x64x768 :=
  Rect.unit (s := S16x64x768) (k0_off3 d) S1x64x768.size (k0_off3_inb d)
abbrev fromSlotR (d : Dev nD) (o : Fin 15) : Rect S16x64x768 :=
  Rect.unit (s := S16x64x768) (k0_off6 d (hopW o)) S1x64x768.size (k0_off6_inb d o)
abbrev ownRowsR (d : Dev nD) : Rect S1024x768 :=
  Rect.unit (s := S1024x768) (k0_off7 d) S64x768.size (k0_off7_inb d)
abbrev fromRowsR (d : Dev nD) (o : Fin 15) : Rect S1024x768 :=
  Rect.unit (s := S1024x768) (k0_off9 d (hopW o)) S64x768.size (k0_off9_inb d o)

/-- The chunk of the partial products a hop sends, the slot it lands in, and the rows the gather lands in. -/
abbrev chunkM (d : Dev nD) (o : Fin 15) : Memref sig .tc .vmem S64x768 .bf16 :=
  mPart.slice (Rect.unit (s := S1024x768) (k0_off5 d (hopW o)) S64x768.size (k0_off5_inb d o)) (fun _ => rfl)
abbrev slotM (d : Dev nD) : Memref sig .tc .vmem S64x768 .bf16 :=
  (mSlots.slice (Rect.unit (s := S16x64x768) (k0_off4 d) S1x64x768.size (k0_off4_inb d)) (fun _ => rfl)).squeeze
    S64x768 squeezes_S1x64x768_S64x768
abbrev rowsM (d : Dev nD) : Memref sig .tc .vmem S64x768 .bf16 :=
  mAg.slice (Rect.unit (s := S1024x768) (k0_off8 d) S64x768.size (k0_off8_inb d)) (fun _ => rfl)

theorem xChunk (d : Dev nD) (o : Fin 15) : (chunkM d o).view.WordExact := wPart.wordExact_slice rfl _ (k0_off5_wordsbf16 d o)
theorem xSlot (d : Dev nD) : (slotM d).view.WordExact := (wSlots.wordExact_slice rfl _ (k0_off4_wordsbf16 d)).reshape _ _
theorem xRows (d : Dev nD) : (rowsM d).view.WordExact := wAg.wordExact_slice rfl _ (k0_off8_wordsbf16 d)
theorem xRed : mRed.view.WordExact := wRed.wordExact

/-- The barrier semaphore. -/
abbrev barS : Sem sig := (SemArray.scalar (sig.barrier 0 rfl) : Sems sig S_).sem

/-- The block-sparse mask as a bias: zero where the mask keeps, the mask's constant elsewhere. -/
def biasV : FVec F S512x512 .f32 :=
  k0_pay11 (k0_pay9 (iota .tc S512x512 32 [0] iota_S512x512_d0_w32) 64#32 k0_pay5 k0_pay6 (Scalar.cmpi .sgt 64#32 0#32))
    (k0_pay10 (iota .tc S512x512 32 [0] iota_S512x512_d0_w32) 64#32 k0_pay5 k0_pay6 (Scalar.cmpi .sgt 64#32 0#32))
    (Scalar.select (Scalar.cmpi .eq 3#32 0#32) 1#32 3#32)

/-- Add a received chunk to the running sum. -/
def addSlot (acc : FVec F S64x768 .f32) (v : Vec F S1x64x768 .bf16) : FVec F S64x768 .f32 :=
  addf acc (extf .f32 (shapeCast S64x768 v shapeCasts_S1x64x768_S64x768) bitsLt_bf16_f32)

/-- The running sum rounded to the wire's type. -/
def roundAcc (acc : FVec F S64x768 .f32) : FVec F S64x768 .bf16 :=
  shapeCast S64x768 (truncf .bf16 acc bitsLt_bf16_f32) shapeCasts_S64x768_S64x768

/-- Copy the blocks to scratch and project the queries. -/
def prologue : P F PUnit := do
  let a ← Prog.lift (.load mX allX.toLoadRect (View.loadsAt_vmem h_S1024x768))
  let _ ← Prog.lift (.load mXb allX.toLoadRect (View.loadsAt_vmem h_S1024x768))
  Prog.lift (.store mXb allX (k0_pay1 a) Finset.univ (View.stores_vmem h_S1024x768 ((Memref.isWhole_whole cc0_scratch0).storeExact_slice rfl _ packedbf16_S1024x768_S1024x768_0_0) (fun _ => rfl)) (.inl rfl))
  let k ← Prog.lift (.load mK allK.toLoadRect (View.loadsAt_vmem h_S1024x512))
  let _ ← Prog.lift (.load mKb allK.toLoadRect (View.loadsAt_vmem h_S1024x512))
  Prog.lift (.store mKb allK (k0_pay2 k) Finset.univ (View.stores_vmem h_S1024x512 ((Memref.isWhole_whole cc0_scratch1).storeExact_slice rfl _ packedbf16_S1024x512_S1024x512_0_0) (fun _ => rfl)) (.inl rfl))
  let v ← Prog.lift (.load mV allK.toLoadRect (View.loadsAt_vmem h_S1024x512))
  let _ ← Prog.lift (.load mVb allK.toLoadRect (View.loadsAt_vmem h_S1024x512))
  Prog.lift (.store mVb allK (k0_pay3 v) Finset.univ (View.stores_vmem h_S1024x512 ((Memref.isWhole_whole cc0_scratch2).storeExact_slice rfl _ packedbf16_S1024x512_S1024x512_0_0) (fun _ => rfl)) (.inl rfl))
  let x ← Prog.lift (.load mXb allX.toLoadRect (View.loadsAt_vmem h_S1024x768))
  let w ← Prog.lift (.load mWq allWq.toLoadRect (View.loadsAt_vmem h_S768x512))
  let _ ← Prog.lift (.load mQ allK.toLoadRect (View.loadsAt_vmem h_S1024x512))
  Prog.lift (.store mQ allK (k0_pay4 x w) Finset.univ (View.stores_vmem h_S1024x512 ((Memref.isWhole_whole cc0_scratch3).storeExact_slice rfl _ packedbf16_S1024x512_S1024x512_0_0) (fun _ => rfl)) (.inl rfl))

/-- One attention head into its block of the context. -/
def headStep (i : Fin 2 × Fin 8) : P F PUnit := do
  let q ← Prog.lift (.load mQ (headR i).toLoadRect (View.loadsAt_vmem h_S512x64))
  let k ← Prog.lift (.load mKb (headR i).toLoadRect (View.loadsAt_vmem h_S512x64))
  let v ← Prog.lift (.load mVb (headR i).toLoadRect (View.loadsAt_vmem h_S512x64))
  let _ ← Prog.lift (.load mCtx (headR i).toLoadRect (View.loadsAt_vmem h_S512x64))
  Prog.lift (.store mCtx (headR i) (k0_pay13 biasV q k v) Finset.univ (View.stores_vmem h_S512x64 (wCtx.storeExact_slice rfl _ (packed_head i)) (fun _ => rfl)) (.inl rfl))

/-- The device's own chunk of the output projection, kept in its own slot. -/
def ownStep (d : Dev nD) : P F PUnit := do
  let a ← Prog.lift (.load mCtx (ctxR d 0).toLoadRect (View.loadsAt_vmem h_S64x512))
  let w ← Prog.lift (.load mWo allWo.toLoadRect (View.loadsAt_vmem h_S512x768))
  let _ ← Prog.lift (.load mPart (partR d 0).toLoadRect (View.loadsAt_vmem h_S64x768))
  Prog.lift (.store mPart (partR d 0) (k0_pay43 a (k0_pay41 w)) Finset.univ (View.stores_vmem h_S64x768 (wPart.storeExact_slice rfl _ (k0_off2_packedbf16 d 0)) (fun _ => rfl)) (.inl rfl))
  let _ ← Prog.lift (.load mSlots (ownSlotR d).toLoadRect (View.loadsAt_vmem h_S1x64x768))
  Prog.lift (.store mSlots (ownSlotR d) (k0_pay44 a (k0_pay41 w)) Finset.univ (View.stores_vmem h_S1x64x768 (wSlots.storeExact_slice rfl _ (k0_off3_packedbf16 d)) (fun _ => rfl)) (.inl rfl))

/-- Compute the chunk of a hop and send it to its device. -/
def rsStep (d : Dev nD) (o : Fin 15) : P F PUnit := do
  let a ← Prog.lift (.load mCtx (ctxR d o.succ).toLoadRect (View.loadsAt_vmem h_S64x512))
  let w ← Prog.lift (.load mWo allWo.toLoadRect (View.loadsAt_vmem h_S512x768))
  let _ ← Prog.lift (.load mPart (partR d o.succ).toLoadRect (View.loadsAt_vmem h_S64x768))
  Prog.lift (.store mPart (partR d o.succ) (k0_pay45 a w) Finset.univ (View.stores_vmem h_S64x768 (wPart.storeExact_slice rfl _ (k0_off2_packedbf16 d o.succ)) (fun _ => rfl)) (.inl rfl))
  Prog.lift (.enqueueDma (chunkM d o) (.remote (Dev.tc (next d o)) (slotM d) (.dma (semAt cc0_scratch9 o))) (.dma (semAt cc0_scratch10 o)) (xChunk d o) (xSlot d) ⟨⟨rfl, Or.inl rfl⟩, trivial⟩)

/-- Wait for a hop's chunk and add it. -/
def redStep (d : Dev nD) (acc : FVec F S64x768 .f32) (o : Fin 15) : P F (FVec F S64x768 .f32) := do
  Prog.lift (.waitDma2 (semAt cc0_scratch10 o) (chunkM d o) (slotM d) (xChunk d o) (xSlot d))
  let v ← Prog.lift (.load mSlots (fromSlotR d o).toLoadRect (View.loadsAt_vmem h_S1x64x768))
  pure (addSlot acc v)

/-- Store the reduced chunk: on the wire's type for the others, in full for the result. -/
def publish (d : Dev nD) (acc : FVec F S64x768 .f32) : P F PUnit := do
  let _ ← Prog.lift (.load mRed allRed.toLoadRect (View.loadsAt_vmem h_S64x768))
  Prog.lift (.store mRed allRed (roundAcc acc) Finset.univ (View.stores_vmem h_S64x768 (wRed.storeExact_slice rfl _ packedbf16_S64x768_S64x768_0_0) (fun _ => rfl)) (.inl rfl))
  let r ← Prog.lift (.load mRed allRed.toLoadRect (View.loadsAt_vmem h_S64x768))
  let _ ← Prog.lift (.load mAg (ownRowsR d).toLoadRect (View.loadsAt_vmem h_S64x768))
  Prog.lift (.store mAg (ownRowsR d) (k0_pay73 r) Finset.univ (View.stores_vmem h_S64x768 (wAg.storeExact_slice rfl _ (k0_off7_packedbf16 d)) (fun _ => rfl)) (.inl rfl))
  let _ ← Prog.lift (.load mOut (ownRowsR d).toLoadRect (View.loadsAt_vmem h_S64x768))
  Prog.lift (.store mOut (ownRowsR d) acc Finset.univ (View.stores_vmem_bits_univ h_S64x768 rfl) (.inl rfl))

/-- Send the reduced chunk over one hop. -/
def agStep (d : Dev nD) (o : Fin 15) : P F PUnit :=
  Prog.lift (.enqueueDma mRed (.remote (Dev.tc (next d o)) (rowsM d) (.dma (semAt cc0_scratch11 o))) (.dma (semAt cc0_scratch12 o)) xRed (xRows d) ⟨⟨rfl, Or.inl rfl⟩, trivial⟩)

/-- Wait for a hop's chunk to have left. -/
def rsDone (d : Dev nD) (o : Fin 15) : P F PUnit :=
  Prog.lift (.waitDma2 (semAt cc0_scratch9 o) (slotM d) (chunkM d o) (xSlot d) (xChunk d o))

/-- Wait for the reduced chunk of the device a hop before and copy it to the result. -/
def collect (d : Dev nD) (o : Fin 15) : P F PUnit := do
  Prog.lift (.waitDma2 (semAt cc0_scratch12 o) mRed (rowsM d) xRed (xRows d))
  let v ← Prog.lift (.load mAg (fromRowsR d o).toLoadRect (View.loadsAt_vmem h_S64x768))
  let _ ← Prog.lift (.load mOut (fromRowsR d o).toLoadRect (View.loadsAt_vmem h_S64x768))
  Prog.lift (.store mOut (fromRowsR d o) (k0_pay74 v) Finset.univ (View.stores_vmem_bits_univ h_S64x768 rfl) (.inl rfl))

/-- Wait for the reduced chunk to have left over a hop. -/
def agDone (d : Dev nD) (o : Fin 15) : P F PUnit :=
  Prog.lift (.waitDma2 (semAt cc0_scratch11 o) (rowsM d) mRed (xRows d) xRed)

/-- The body after the device's number is read. -/
def bodyOn (d : Dev nD) : P F PUnit := do
  each (fun j => semSignalWord j barS 1#32) devs
  prologue
  each headStep heads
  semWaitWord barS 16#32
  ownStep d
  each (rsStep d) hops
  let a ← Prog.lift (.load mSlots (ownSlotR d).toLoadRect (View.loadsAt_vmem h_S1x64x768))
  let acc ← thread (redStep d) (k0_pay61 a) hops
  publish d acc
  each (agStep d) hops
  each (rsDone d) hops
  each (collect d) hops
  each (agDone d) hops

/-- The whole body as loops. -/
def body : P F PUnit := do
  let d ← Prog.lift .deviceId
  bodyOn d

set_option maxRecDepth 65536 in
/-- The printed body is the body as loops. -/
theorem body_eq : bodyAt0 (F := F) t0_0 = body := by chain_rfl

end Cert.KernelIdeal.Ring
-- ==== Proof.Values.lean ====
module

public import proofs.«01_k».proof.Proof.Body
public import Idealize.ShloMosaic.Lib.ValueIdxCore
public import Idealize.ShloMosaic.Lib.VecWindow

@[expose] public section

noncomputable section

/-! # What the devices' buffers hold

Where the rectangles of the exchange lie, as sets of rows and slots, and the contents of every buffer as a function of
what the devices were given. -/

namespace Cert.KernelIdeal.Ring

open Idealize.ShloMosaic Idealize.ShloMosaic.TcCoe Idealize.SL.Sem
open Cert.KernelIdeal.Gen
open Idealize.ShloMosaic.ValueIdx (ix2 ix3 eq_ix2)

variable {F : FTy → Type} [FloatOps F] [Named F]

/-! ## The ring -/

/-- The device `o + 1` places after `c`, and the one `o + 1` places before. -/
def fwd (c : Dev nD) (o : Fin 15) : Dev nD := c + o.succ
def bwd (c : Dev nD) (o : Fin 15) : Dev nD := c - o.succ

theorem dev_add_zero : ∀ c : Dev nD, c + 0 = c := by decide +kernel
theorem next_eq : ∀ (c : Dev nD) (o : Fin 15), next c o = fwd c o := by decide +kernel
theorem bwd_fwd : ∀ (c : Dev nD) (o : Fin 15), bwd (fwd c o) o = c := by decide +kernel
theorem fwd_bwd : ∀ (c : Dev nD) (o : Fin 15), fwd (bwd c o) o = c := by decide +kernel
theorem fwd_ne : ∀ (c : Dev nD) (o : Fin 15), fwd c o ≠ c := by decide +kernel
theorem bwd_ne : ∀ (c : Dev nD) (o : Fin 15), bwd c o ≠ c := by decide +kernel
theorem fwd_inj (c : Dev nD) : ∀ o o' : Fin 15, fwd c o = fwd c o' → o = o' := by revert c; decide +kernel
theorem bwd_inj (c : Dev nD) : ∀ o o' : Fin 15, bwd c o = bwd c o' → o = o' := by revert c; decide +kernel
theorem all_fwd (c : Dev nD) : insert c (Finset.univ.image (fwd c)) = Finset.univ := by revert c; decide +kernel
theorem all_bwd (c : Dev nD) : insert c (Finset.univ.image (bwd c)) = Finset.univ := by revert c; decide +kernel

/-- One hop as a permutation of the devices. -/
def hop (o : Fin 15) : Dev nD ≃ Dev nD := ⟨fun c => fwd c o, fun c => bwd c o, fun c => bwd_fwd c o, fun c => fwd_bwd c o⟩

/-! ## The rectangles' places -/

theorem off1_eq : ∀ (d : Dev nD) (r : Fin 16), k0_off1 d (BitVec.ofNat 32 r.val) = ![64 * (d + r).val, 0] := by decide +kernel
theorem off2_eq : ∀ (d : Dev nD) (r : Fin 16), k0_off2 d (BitVec.ofNat 32 r.val) = ![64 * (d + r).val, 0] := by decide +kernel
theorem off5_eq : ∀ (d : Dev nD) (o : Fin 15), k0_off5 d (hopW o) = ![64 * (fwd d o).val, 0] := by decide +kernel
theorem off6_eq : ∀ (d : Dev nD) (o : Fin 15), k0_off6 d (hopW o) = ![(bwd d o).val, 0, 0] := by decide +kernel
theorem off9_eq : ∀ (d : Dev nD) (o : Fin 15), k0_off9 d (hopW o) = ![64 * (bwd d o).val, 0] := by decide +kernel

/-- The elements in the sixty-four rows of chunk `j`, and the elements of slot `j`. -/
def rowsSet (j : Dev nD) : Finset S1024x768.Idx := Finset.univ.filter fun i => (i 0).val / 64 = j.val
def slotSet (j : Dev nD) : Finset S16x64x768.Idx := Finset.univ.filter fun i => (i 0).val = j.val

theorem mem_rowsSet {j : Dev nD} {i : S1024x768.Idx} : i ∈ rowsSet j ↔ (i 0).val / 64 = j.val := by simp [rowsSet]
theorem mem_slotSet {j : Dev nD} {i : S16x64x768.Idx} : i ∈ slotSet j ↔ (i 0).val = j.val := by simp [slotSet]

theorem rows_disjoint (j j' : Dev nD) (h : j ≠ j') : Disjoint (rowsSet j) (rowsSet j') :=
  Finset.disjoint_left.mpr fun i hi hi' => h (Fin.ext ((mem_rowsSet.mp hi).symm.trans (mem_rowsSet.mp hi')))
theorem slots_disjoint (j j' : Dev nD) (h : j ≠ j') : Disjoint (slotSet j) (slotSet j') :=
  Finset.disjoint_left.mpr fun i hi hi' => h (Fin.ext ((mem_slotSet.mp hi).symm.trans (mem_slotSet.mp hi')))
theorem rows_cover : Finset.univ.biUnion rowsSet = Finset.univ := by
  refine Finset.eq_univ_iff_forall.mpr fun i => Finset.mem_biUnion.mpr ⟨⟨(i 0).val / 64, ?_⟩, Finset.mem_univ _, mem_rowsSet.mpr rfl⟩
  have : (i 0).val < 1024 := (i 0).isLt
  show (i 0).val / 64 < 16; omega
theorem slots_cover : Finset.univ.biUnion slotSet = Finset.univ :=
  Finset.eq_univ_iff_forall.mpr fun i => Finset.mem_biUnion.mpr ⟨(⟨(i 0).val, (i 0).isLt⟩ : Fin 16), Finset.mem_univ _, mem_slotSet.mpr rfl⟩

/-- A rectangle of whole rows lies in its chunk's rows. -/
theorem rows_of_off (off : Fin 2 → ℕ) (j : Dev nD) (inb) (h : off = ![64 * j.val, 0]) :
    (Rect.unit (s := S1024x768) off S64x768.size inb).set = rowsSet j := by
  subst h
  ext i
  rw [Rect.mem_set_unit, mem_rowsSet]
  have h1 : (i 1).val < 768 := (i 1).isLt
  constructor
  · intro h
    have h0 := h 0
    change 64 * j.val ≤ (i 0).val ∧ (i 0).val < 64 * j.val + 64 at h0
    omega
  · intro h a
    fin_cases a
    · show 64 * j.val ≤ (i 0).val ∧ (i 0).val < 64 * j.val + 64; omega
    · show 0 ≤ (i 1).val ∧ (i 1).val < 0 + 768; omega
theorem slot_of_off (off : Fin 3 → ℕ) (j : Dev nD) (inb) (h : off = ![j.val, 0, 0]) :
    (Rect.unit (s := S16x64x768) off S1x64x768.size inb).set = slotSet j := by
  subst h
  ext i
  rw [Rect.mem_set_unit, mem_slotSet]
  have h1 : (i 1).val < 64 := (i 1).isLt
  have h2 : (i 2).val < 768 := (i 2).isLt
  constructor
  · intro h
    have h0 := h 0
    change j.val ≤ (i 0).val ∧ (i 0).val < j.val + 1 at h0
    omega
  · intro h a
    fin_cases a
    · show j.val ≤ (i 0).val ∧ (i 0).val < j.val + 1; omega
    · show 0 ≤ (i 1).val ∧ (i 1).val < 0 + 64; omega
    · show 0 ≤ (i 2).val ∧ (i 2).val < 0 + 768; omega

theorem set_partR (d : Dev nD) (r : Fin 16) : (mPart.access (partR d r)).set = rowsSet (d + r) := by
  rw [View.set_slice_whole]; exact rows_of_off _ _ _ (off2_eq d r)
theorem set_chunkM (d : Dev nD) (o : Fin 15) : (chunkM d o).view.set = rowsSet (fwd d o) := by
  rw [View.set_slice_whole]; exact rows_of_off _ _ _ (off5_eq d o)
theorem set_ownRowsAg (d : Dev nD) : (mAg.access (ownRowsR d)).set = rowsSet d := by
  rw [View.set_slice_whole]; exact rows_of_off _ _ _ (k0_off7_eq d)
theorem set_ownRowsOut (d : Dev nD) : (mOut.access (ownRowsR d)).set = rowsSet d := by
  rw [View.set_slice_whole]; exact rows_of_off _ _ _ (k0_off7_eq d)
theorem set_rowsM (d : Dev nD) : (rowsM d).view.set = rowsSet d := by
  rw [View.set_slice_whole]; exact rows_of_off _ _ _ (k0_off8_eq d)
theorem set_fromRowsAg (d : Dev nD) (o : Fin 15) : (mAg.access (fromRowsR d o)).set = rowsSet (bwd d o) := by
  rw [View.set_slice_whole]; exact rows_of_off _ _ _ (off9_eq d o)
theorem set_fromRowsOut (d : Dev nD) (o : Fin 15) : (mOut.access (fromRowsR d o)).set = rowsSet (bwd d o) := by
  rw [View.set_slice_whole]; exact rows_of_off _ _ _ (off9_eq d o)
theorem set_ownSlot (d : Dev nD) : (mSlots.access (ownSlotR d)).set = slotSet d := by
  rw [View.set_slice_whole]; exact slot_of_off _ _ _ (k0_off3_eq d)
theorem set_fromSlot (d : Dev nD) (o : Fin 15) : (mSlots.access (fromSlotR d o)).set = slotSet (bwd d o) := by
  rw [View.set_slice_whole]; exact slot_of_off _ _ _ (off6_eq d o)
theorem set_slotM (d : Dev nD) : (slotM d).view.set = slotSet d := by
  rw [show (slotM d).view.set = ((View.whole cc0_scratch7).slice (Rect.unit (s := S16x64x768) (k0_off4 d) S1x64x768.size (k0_off4_inb d))).set
    from View.set_reshape _ _, View.set_slice_whole]
  exact slot_of_off _ _ _ (k0_off4_eq d)

/-! ## Contents -/

/-- What one device's five blocks hold. -/
structure Blocks (F : FTy → Type) where
  x : S1024x768.Idx → Elt F .bf16
  wq : S768x512.Idx → Elt F .bf16
  k : S1024x512.Idx → Elt F .bf16
  v : S1024x512.Idx → Elt F .bf16
  wo : S512x768.Idx → Elt F .bf16

/-- Row `i` of chunk `j`, and an element of the whole split in chunk and place. -/
def rowIx (j : Dev nD) (i : S64x768.Idx) : S1024x768.Idx :=
  ix2 ⟨64 * j.val + (i 0).val, by have h0 : (i 0).val < 64 := (i 0).isLt; have : j.val < 16 := j.isLt; omega⟩ (i 1)
def chunkOf (i : S1024x768.Idx) : Dev nD := ⟨(i 0).val / 64, by have h : (i 0).val < 1024 := (i 0).isLt; show _ < 16; omega⟩
def placeOf (i : S1024x768.Idx) : S64x768.Idx := ix2 ⟨(i 0).val % 64, Nat.mod_lt _ (by decide)⟩ (i 1)

theorem chunkOf_rowIx (j : Dev nD) (i : S64x768.Idx) : chunkOf (rowIx j i) = j := by
  have h0 : (i 0).val < 64 := (i 0).isLt
  apply Fin.ext; show (64 * j.val + (i 0).val) / 64 = j.val; omega
theorem placeOf_rowIx (j : Dev nD) (i : S64x768.Idx) : placeOf (rowIx j i) = i := by
  have h0 : (i 0).val < 64 := (i 0).isLt
  refine Eq.trans ?_ (eq_ix2 i).symm
  unfold placeOf
  congr 1
  apply Fin.ext; show (64 * j.val + (i 0).val) % 64 = (i 0).val; omega
theorem rowIx_split (i : S1024x768.Idx) : rowIx (chunkOf i) (placeOf i) = i := by
  refine Eq.trans ?_ (eq_ix2 i).symm
  unfold rowIx
  congr 1
  apply Fin.ext; show 64 * ((i 0).val / 64) + (i 0).val % 64 = (i 0).val; omega
theorem chunkOf_of_mem {j : Dev nD} {i : S1024x768.Idx} (h : i ∈ rowsSet j) : chunkOf i = j := Fin.ext (mem_rowsSet.mp h)

/-- The head an element of the context lies in, and its place there. -/
def headOf (i : S1024x512.Idx) : Fin 2 × Fin 8 :=
  (⟨(i 0).val / 512, by have h : (i 0).val < 1024 := (i 0).isLt; omega⟩, ⟨(i 1).val / 64, by have h : (i 1).val < 512 := (i 1).isLt; omega⟩)
def inHead (i : S1024x512.Idx) : S512x64.Idx := ix2 ⟨(i 0).val % 512, Nat.mod_lt _ (by decide)⟩ ⟨(i 1).val % 64, Nat.mod_lt _ (by decide)⟩

theorem headOf_emb (h : Fin 2 × Fin 8) (x : (headR h).shape.Idx) : headOf ((headR h).emb x) = h := by
  have h0 : (x 0).val < 512 := (x 0).isLt
  have h1 : (x 1).val < 64 := (x 1).isLt
  obtain ⟨b, hd⟩ := h
  refine Prod.ext (Fin.ext ?_) (Fin.ext ?_)
  · show (512 * b.val + 1 * (x 0).val) / 512 = b.val; omega
  · show (64 * hd.val + 1 * (x 1).val) / 64 = hd.val; omega
theorem inHead_emb (h : Fin 2 × Fin 8) (x : (headR h).shape.Idx) : inHead ((headR h).emb x) = x := by
  have h0 : (x 0).val < 512 := (x 0).isLt
  have h1 : (x 1).val < 64 := (x 1).isLt
  obtain ⟨b, hd⟩ := h
  funext a
  fin_cases a
  · apply Fin.ext; show (512 * b.val + 1 * (x 0).val) % 512 = (x 0).val; omega
  · apply Fin.ext; show (64 * hd.val + 1 * (x 1).val) % 64 = (x 1).val; omega
theorem headR_inHead (i : S1024x512.Idx) : (headR (headOf i)).emb (inHead i) = i := by
  funext a
  fin_cases a
  · apply Fin.ext; show 512 * ((i 0).val / 512) + 1 * ((i 0).val % 512) = (i 0).val; omega
  · apply Fin.ext; show 64 * ((i 1).val / 64) + 1 * ((i 1).val % 64) = (i 1).val; omega

variable (B : Dev nD → Blocks F)

/-- The queries, keys and values in scratch. -/
def xV (c : Dev nD) : S1024x768.Idx → Elt F .bf16 := k0_pay1 (B c).x
def kV (c : Dev nD) : S1024x512.Idx → Elt F .bf16 := k0_pay2 (B c).k
def vV (c : Dev nD) : S1024x512.Idx → Elt F .bf16 := k0_pay3 (B c).v
def qV (c : Dev nD) : S1024x512.Idx → Elt F .bf16 := k0_pay4 (xV B c) (B c).wq

/-- One head's block of a buffer. -/
def headBlk (h : Fin 2 × Fin 8) (f : S1024x512.Idx → Elt F .bf16) : Vec F S512x64 .bf16 := fun x => f ((headR h).emb x)

/-- One head's context, and the whole context. -/
def headV (c : Dev nD) (h : Fin 2 × Fin 8) : FVec F S512x64 .bf16 :=
  k0_pay13 biasV (headBlk h (qV B c)) (headBlk h (kV B c)) (headBlk h (vV B c))
def ctxV (c : Dev nD) : S1024x512.Idx → Elt F .bf16 := fun i => headV B c (headOf i) (inHead i)

/-- The context's rows of chunk `j`. -/
def ctxRows (j : Dev nD) (f : S1024x512.Idx → Elt F .bf16) : Vec F S64x512 .bf16 := fun i =>
  f (ix2 ⟨64 * j.val + (i 0).val, by have h0 : (i 0).val < 64 := (i 0).isLt; have : j.val < 16 := j.isLt; omega⟩ (i 1))

/-- Device `c`'s product of chunk `j`'s rows, as it travels. -/
def partV (c j : Dev nD) : FVec F S64x768 .bf16 := k0_pay45 (ctxRows j (ctxV B c)) (B c).wo

/-- The buffer of products, the slots on device `c` (slot `d` has device `d`'s product of `c`'s rows). -/
def partBuf (c : Dev nD) : S1024x768.Idx → Elt F .bf16 := fun i => partV B c (chunkOf i) (placeOf i)
def slotBuf (c : Dev nD) : S16x64x768.Idx → Elt F .bf16 := fun i => partV B ⟨(i 0).val, (i 0).isLt⟩ c (ix2 (i 1) (i 2))
def slotVec (c d : Dev nD) : Vec F S1x64x768 .bf16 := fun i => partV B d c (ix2 (i 1) (i 2))

/-- The sum of the sixteen products of `c`'s rows, in ring order, and rounded. -/
def accV (c : Dev nD) : FVec F S64x768 .f32 :=
  hops.foldl (fun acc o => addSlot acc (slotVec B c (bwd c o))) (k0_pay61 (slotVec B c c))
def redV (c : Dev nD) : FVec F S64x768 .bf16 := roundAcc (accV B c)

/-- The gathered rows, and the result: the device's own rows in full, the others' as they travelled. -/
def agBuf : S1024x768.Idx → Elt F .bf16 := fun i => redV B (chunkOf i) (placeOf i)
def outV (c : Dev nD) : S1024x768.Idx → Elt F .f32 := fun i =>
  if chunkOf i = c then accV B c (placeOf i) else k0_pay74 (redV B (chunkOf i)) (placeOf i)

/-! ## Reads and writes at the rectangles -/

/-- A write through a view agrees, on the view's elements, with contents that read as what was written. -/
theorem write_agree {Val : EltTy → Type} {κ : Kind} {sp : Space} {s : Shape} {e : EltTy} (v : View sig κ sp s e) (f g : v.ty.Contents Val)
    (w : s.Idx → Val e) (h : v.read Val g = w) : ∀ i ∈ v.set, v.write Val f w Finset.univ i = g i := by
  intro i hi
  obtain ⟨x, -, rfl⟩ := Finset.mem_map.mp hi
  rw [View.write_emb_of_mem _ _ (Finset.mem_univ x), ← h, View.read_apply, cast_cast, cast_eq]

theorem emb_rows (off : Fin 2 → ℕ) (j : Dev nD) (inb) (h : off = ![64 * j.val, 0]) (x : S64x768.Idx) :
    (Rect.unit (s := S1024x768) off S64x768.size inb).emb x = rowIx j x := by
  subst h
  funext a
  fin_cases a
  · apply Fin.ext; show 64 * j.val + 1 * (x 0).val = 64 * j.val + (x 0).val; omega
  · apply Fin.ext; show 0 + 1 * (x 1).val = (x 1).val; omega
theorem emb_slot (off : Fin 3 → ℕ) (j : Dev nD) (inb) (h : off = ![j.val, 0, 0]) (x : S1x64x768.Idx) :
    (Rect.unit (s := S16x64x768) off S1x64x768.size inb).emb x = ix3 j (x 1) (x 2) := by
  subst h
  have h0 : (x 0).val < 1 := (x 0).isLt
  funext a
  fin_cases a
  · apply Fin.ext; show j.val + 1 * (x 0).val = j.val; omega
  · apply Fin.ext; show 0 + 1 * (x 1).val = (x 1).val; omega
  · apply Fin.ext; show 0 + 1 * (x 2).val = (x 2).val; omega

theorem read_partR (c d : Dev nD) (r : Fin 16) : (mPart.access (partR d r)).read (Elt F) (partBuf B c) = partV B c (d + r) := by
  funext x
  show partBuf B c ((partR d r).emb x) = _
  rw [emb_rows _ _ _ (off2_eq d r) x]; unfold partBuf; rw [chunkOf_rowIx, placeOf_rowIx]
theorem read_chunkM (c d : Dev nD) (o : Fin 15) : (chunkM d o).view.read (Elt F) (partBuf B c) = partV B c (fwd d o) := by
  funext x
  show partBuf B c ((Rect.unit (s := S1024x768) (k0_off5 d (hopW o)) S64x768.size (k0_off5_inb d o)).emb x) = _
  rw [emb_rows _ _ _ (off5_eq d o) x]; unfold partBuf; rw [chunkOf_rowIx, placeOf_rowIx]
theorem read_rowsM (d : Dev nD) : (rowsM d).view.read (Elt F) (agBuf B) = redV B d := by
  funext x
  show agBuf B ((Rect.unit (s := S1024x768) (k0_off8 d) S64x768.size (k0_off8_inb d)).emb x) = _
  rw [emb_rows _ _ _ (k0_off8_eq d) x]; unfold agBuf; rw [chunkOf_rowIx, placeOf_rowIx]
theorem read_ownRowsAg (d : Dev nD) : (mAg.access (ownRowsR d)).read (Elt F) (agBuf B) = redV B d := by
  funext x
  show agBuf B ((ownRowsR d).emb x) = _
  rw [emb_rows _ _ _ (k0_off7_eq d) x]; unfold agBuf; rw [chunkOf_rowIx, placeOf_rowIx]
theorem read_fromRowsAg (d : Dev nD) (o : Fin 15) : (mAg.access (fromRowsR d o)).read (Elt F) (agBuf B) = redV B (bwd d o) := by
  funext x
  show agBuf B ((fromRowsR d o).emb x) = _
  rw [emb_rows _ _ _ (off9_eq d o) x]; unfold agBuf; rw [chunkOf_rowIx, placeOf_rowIx]
theorem read_ownRowsOut (d : Dev nD) : (mOut.access (ownRowsR d)).read (Elt F) (outV B d) = accV B d := by
  funext x
  show outV B d ((ownRowsR d).emb x) = _
  rw [emb_rows _ _ _ (k0_off7_eq d) x]; unfold outV; rw [chunkOf_rowIx, placeOf_rowIx, if_pos rfl]
theorem read_fromRowsOut (d : Dev nD) (o : Fin 15) : (mOut.access (fromRowsR d o)).read (Elt F) (outV B d) = k0_pay74 (redV B (bwd d o)) := by
  funext x
  show outV B d ((fromRowsR d o).emb x) = _
  rw [emb_rows _ _ _ (off9_eq d o) x]; unfold outV; rw [chunkOf_rowIx, placeOf_rowIx, if_neg (bwd_ne d o)]
theorem read_ownSlot (d : Dev nD) : (mSlots.access (ownSlotR d)).read (Elt F) (slotBuf B d) = slotVec B d d := by
  funext x
  show slotBuf B d ((ownSlotR d).emb x) = _
  rw [emb_slot _ _ _ (k0_off3_eq d) x]; rfl
theorem read_fromSlot (d : Dev nD) (o : Fin 15) : (mSlots.access (fromSlotR d o)).read (Elt F) (slotBuf B d) = slotVec B d (bwd d o) := by
  funext x
  show slotBuf B d ((fromSlotR d o).emb x) = _
  rw [emb_slot _ _ _ (off6_eq d o) x]; rfl
/-- Device `c`'s slot on device `j` reads as `c`'s product of `j`'s rows. -/
theorem read_slotM (c j : Dev nD) : (slotM c).view.read (Elt F) (slotBuf B j) = partV B c j := by
  funext x
  show slotBuf B j ((Rect.unit (s := S16x64x768) (k0_off4 c) S1x64x768.size (k0_off4_inb c)).emb
    (Shape.reshapeEquiv squeezes_S1x64x768_S64x768.numel_eq x)) = _
  rw [emb_slot _ _ _ (k0_off4_eq c), Shape.reshapeEquiv_cons_one (d := ![64, 768])]
  exact congrArg (partV B c j) (eq_ix2 x).symm

theorem read_headR (h : Fin 2 × Fin 8) (f : S1024x512.Idx → Elt F .bf16) : (mQ.access (headR h)).read (Elt F) f = headBlk h f := rfl
theorem read_ctx_head (c : Dev nD) (h : Fin 2 × Fin 8) : (mCtx.access (headR h)).read (Elt F) (ctxV B c) = headV B c h := by
  funext x
  show ctxV B c ((headR h).emb x) = _
  unfold ctxV; rw [headOf_emb, inHead_emb]
theorem read_ctxR (d : Dev nD) (r : Fin 16) (f : S1024x512.Idx → Elt F .bf16) : (mCtx.access (ctxR d r)).read (Elt F) f = ctxRows (d + r) f := by
  funext x
  show f ((ctxR d r).emb x) = _
  have e : ∀ (off : Fin 2 → ℕ) (inb), off = ![64 * (d + r).val, 0] → ∀ y : S64x512.Idx,
      f ((Rect.unit (s := S1024x512) off S64x512.size inb).emb y) = ctxRows (d + r) f y := by
    rintro off inb rfl y
    unfold ctxRows
    congr 1
    funext a
    fin_cases a
    · apply Fin.ext; show 64 * (d + r).val + 1 * (y 0).val = 64 * (d + r).val + (y 0).val; omega
    · apply Fin.ext; show 0 + 1 * (y 1).val = (y 1).val; omega
  exact e _ _ (off1_eq d r) x

/-- A device's own product is stored as the others' are; its own slot holds the same. -/
theorem own_part (a : Vec F S64x512 .bf16) (w : Vec F S512x768 .bf16) : k0_pay43 a (k0_pay41 w) = k0_pay45 a w := rfl
theorem own_slot (c : Dev nD) : k0_pay44 (ctxRows c (ctxV B c)) (k0_pay41 (B c).wo) = slotVec B c c := by
  funext x
  have hx : x = Shape.reshapeEquiv squeezes_S1x64x768_S64x768.numel_eq (ix2 (x 1) (x 2) : S64x768.Idx) := by
    rw [Shape.reshapeEquiv_cons_one (d := ![64, 768])]
    have h0 : (x 0).val < 1 := (x 0).isLt
    funext a
    fin_cases a
    · apply Fin.ext; show (x 0).val = 0; omega
    · rfl
    · rfl
  have e (z : FVec F S64x768 .bf16) : shapeCast S1x64x768 z shapeCasts_S64x768_S1x64x768 x = shapeCast S64x768 z shapeCasts_S64x768_S64x768 (ix2 (x 1) (x 2)) := by
    conv_lhs => rw [hx]
    show z (Shape.reshapeEquiv _ (Shape.reshapeEquiv _ _)) = z (Shape.reshapeEquiv _ _)
    rw [Shape.reshapeEquiv_reshapeEquiv]
  exact e (k0_pay42 (ctxRows c (ctxV B c)) (k0_pay41 (B c).wo))

end Cert.KernelIdeal.Ring
-- ==== Proof.Protocol.lean ====
module

public import proofs.«01_k».proof.Proof.Values
public import Idealize.ShloMosaic.Lib.Pipeline.Regions
public import Idealize.ShloMosaic.Lib.Pipeline.Kit
public import Idealize.ShloMosaic.Lib.Pipeline.BigSepL
public import Idealize.ShloMosaic.Lib.Pipeline.RegionTalk
public import Idealize.ShloMosaic.Lib.Rounds
public import Idealize.ShloMosaic.Lib.Transfers
public import Idealize.ShloMosaic.Lib.StableHlo
public import Idealize.ShloMosaic.Lib.Tactic

@[expose] public section

noncomputable section

/-! # The protocol between the devices

Every cell is used for one round. A device's barrier cell takes one unit from each of the sixteen devices, and each unit
hands over that device's slot and rows for the receiver. Each of the four families of transfer cells takes one transfer's
credit: a sent chunk gives its rows back to the sender, a received one hands the slot or the rows at their new contents
to the receiver. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-! ## Cells -/

/-- A family of transfer cells (chunks sent, chunks received, gathers sent, gathers received) and a hop. -/
abbrev Lane : Type := Fin 4 × Fin 15

/-- A transfer cell's semaphore. -/
def laneSem (k : Lane) : DmaSem sig :=
  if k.1 = 0 then semAt cc0_scratch9 k.2 else if k.1 = 1 then semAt cc0_scratch10 k.2
  else if k.1 = 2 then semAt cc0_scratch11 k.2 else semAt cc0_scratch12 k.2

/-- The region's own semaphores. -/
def osem (k : Lane) : SemLoc sig := .dma (laneSem k)

theorem osem_0 (o : Fin 15) : osem (0, o) = .dma (semAt cc0_scratch9 o) := rfl
theorem osem_1 (o : Fin 15) : osem (1, o) = .dma (semAt cc0_scratch10 o) := rfl
theorem osem_2 (o : Fin 15) : osem (2, o) = .dma (semAt cc0_scratch11 o) := rfl
theorem osem_3 (o : Fin 15) : osem (3, o) = .dma (semAt cc0_scratch12 o) := rfl

/-- Which cell of the protocol a semaphore is: the barrier's (`some none`), a transfer's, or none. -/
def dec : SemLoc sig → Option (Option Lane)
  | .reg _ => some none
  | .dma s => if h : 6 ≤ s.val ∧ s.val < 66 then some (some (⟨(s.val - 6) / 15, by omega⟩, ⟨(s.val - 6) % 15, by omega⟩)) else none

theorem dec_bar : dec (.reg barS) = some none := rfl
theorem dec_osem : ∀ k : Lane, dec (osem k) = some (some k) := by decide +kernel
theorem osem_inj : Function.Injective osem := fun a b h => by
  have := (dec_osem a).symm.trans ((congrArg dec h).trans (dec_osem b))
  simpa using this

abbrev barCell (c : Dev nD) : GSem nD τ sig := ((c : Thread nD τ), .reg barS)
abbrev cell (c : Dev nD) (k : Lane) : GSem nD τ sig := ((c : Thread nD τ), osem k)

/-- The credit of one chunk's transfer. -/
def N : ℕ := mRed.view.dmaCredit
theorem N_pos : 0 < N := View.dmaCredit_pos _ (by decide)

/-! ## The resource algebra -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

abbrev 𝒱₀ : Variants := Variants.none

/-! ## Pieces of buffers -/

/-- Chunk `j`'s rows of the products, slot `j`, chunk `j`'s rows of the gathered buffer, on device `c`. -/
abbrev ptPart (c j : Dev nD) (f : S1024x768.Idx → Elt F .bf16) : sProp 𝕄 := (c : Thread nD τ).loc cc0_scratch5 ↦[rowsSet j]{fullShare} f
abbrev ptSlot (c j : Dev nD) (f : S16x64x768.Idx → Elt F .bf16) : sProp 𝕄 := (c : Thread nD τ).loc cc0_scratch7 ↦[slotSet j]{fullShare} f
abbrev ptAg (c j : Dev nD) (f : S1024x768.Idx → Elt F .bf16) : sProp 𝕄 := (c : Thread nD τ).loc cc0_scratch8 ↦[rowsSet j]{fullShare} f
/-- One fifteenth of the reduced chunk's buffer. -/
abbrev ptRed (c : Dev nD) (o : Fin 15) (f : S64x768.Idx → Elt F .bf16) : sProp 𝕄 :=
  (c : Thread nD τ).loc cc0_scratch6 ↦{Transfers.shareTok fullShare 15 o} f

variable (B : Dev nD → Blocks F)

/-! ## The schedule -/

/-- What device `d`'s unit hands to device `c`'s barrier cell. -/
def barPay (c d : Dev nD) : sProp 𝕄 :=
  iprop((∃ f, ptSlot d c f) ∗ (∃ f, ptAg d c f) ∗ bigSep Finset.univ (fun k : Lane => reached ER (cell d k) 0))

/-- What a transfer hands to a cell of device `c`. -/
def lanePay (c : Dev nD) (k : Lane) : sProp 𝕄 :=
  if k.1 = 0 then ptPart c (fwd c k.2) (partBuf B c)
  else if k.1 = 1 then ptSlot c (bwd c k.2) (slotBuf B c)
  else if k.1 = 2 then ptRed c k.2 (redV B c)
  else ptAg c (bwd c k.2) (agBuf B)

def dutyOf : Option (Option Lane) → Finset (Dev nD)
  | none => ∅
  | some none => Finset.univ
  | some (some _) => {0}
def payOf (c d : Dev nD) : Option (Option Lane) → sProp 𝕄
  | none => iprop(emp)
  | some none => barPay c d
  | some (some k) => lanePay B c k

instance payOf_storable (c d : Dev nD) (x : Option (Option Lane)) : BI.Storable (upEmb : UEmb _ 𝕄) (payOf B c d x) := by
  rcases x with _ | _ | k
  · show BI.Storable upEmb iprop(emp); infer_instance
  · show BI.Storable upEmb (barPay c d); unfold barPay; infer_instance
  · show BI.Storable upEmb (lanePay B c k); unfold lanePay; (repeat' split) <;> infer_instance

def sched : Rounds.Schedule (GSem nD τ sig) (Dev nD) 𝕄 where
  duties g r := if r = 0 ∧ g.1.2 = .tc then dutyOf (dec g.2) else ∅
  unitless _ := False
  amount g _ _ := if dec g.2 = some none then 1 else N
  payload g _ d := payOf B g.1.1 d (dec g.2)
  amount_pos g _ _ _ := by
    by_cases h : dec g.2 = some none
    · rw [if_pos h]; exact Nat.one_pos
    · rw [if_neg h]; exact N_pos

instance sched_storable (g : GSem nD τ sig) (r : ℕ) (d : Dev nD) : BI.Storable (upEmb : UEmb _ 𝕄) ((sched B).payload g r d) :=
  payOf_storable B g.1.1 d (dec g.2)

section Sched
variable (c d : Dev nD) (k : Lane)

theorem duties_bar : (sched B).duties (barCell c) 0 = Finset.univ := by
  dsimp only [sched]; exact (if_pos ⟨rfl, rfl⟩).trans (congrArg dutyOf dec_bar)
theorem duties_lane : (sched B).duties (cell c k) 0 = {0} := by
  dsimp only [sched]; exact (if_pos ⟨rfl, rfl⟩).trans (congrArg dutyOf (dec_osem k))
theorem duties_later (g : GSem nD τ sig) : ∀ r, 1 ≤ r → (sched B).duties g r = ∅ := fun r hr => if_neg fun h => by omega
theorem amount_bar : (sched B).amount (barCell c) 0 d = 1 := by dsimp only [sched]; exact if_pos dec_bar
theorem amount_lane : (sched B).amount (cell c k) 0 d = N := by
  dsimp only [sched]; exact if_neg (show ¬ dec (osem k) = some none by rw [dec_osem]; simp)
theorem payload_bar : (sched B).payload (barCell c) 0 d = barPay c d := rfl
theorem payload_lane : (sched B).payload (cell c k) 0 d = lanePay B c k := by
  show payOf B c d (dec (osem k)) = _
  rw [dec_osem]; rfl
theorem expect_bar : (sched B).expect (barCell c) 0 = 16 := by
  unfold Schedule.expect Schedule.amountOf
  rw [duties_bar, Finset.sum_congr rfl fun d _ => amount_bar B c d]; rfl
theorem expect_lane : (sched B).expect (cell c k) 0 = N := by
  unfold Schedule.expect Schedule.amountOf; rw [duties_lane, Finset.sum_singleton, amount_lane]
theorem rest_bar : bigSep ((sched B).duties (barCell c) 0 \ ∅) (fun u => (sched B).payload (barCell c) 0 u) = bigSep Finset.univ (barPay (F := F) c) := by
  rw [Finset.sdiff_empty, duties_bar]; rfl
theorem rest_lane : bigSep ((sched B).duties (cell c k) 0 \ ∅) (fun u => (sched B).payload (cell c k) 0 u) = lanePay B c k := by
  rw [Finset.sdiff_empty, duties_lane, bigSep_singleton, payload_lane]

end Sched

/-! ## What each core owes; the levels -/

/-- The units owed to the barrier cells of `l`, and the credits owed to the cells the chunks and the gathers of `l` land in. -/
def tBar (l : List (Dev nD)) : CellTallies nD τ sig Unit := (l.map fun j => tallyAt (barCell j) () 1).sum
def tRs (c : Dev nD) (l : List (Fin 15)) : CellTallies nD τ sig Unit := (l.map fun o => tallyAt (cell (fwd c o) (1, o)) () N).sum
def tAg (c : Dev nD) (l : List (Fin 15)) : CellTallies nD τ sig Unit := (l.map fun o => tallyAt (cell (fwd c o) (3, o)) () N).sum

theorem tBar_cons (j : Dev nD) (l) (R : CellTallies nD τ sig Unit) : tBar (j :: l) + R = (tBar l + R) + tallyAt (barCell j) () 1 := by
  unfold tBar; rw [List.map_cons, List.sum_cons, add_assoc, add_comm]
theorem tRs_cons (c : Dev nD) (o) (l) (R : CellTallies nD τ sig Unit) :
    tRs c (o :: l) + R = (tRs c l + R) + tallyAt (cell (fwd c o) (1, o)) () N := by
  unfold tRs; rw [List.map_cons, List.sum_cons, add_assoc, add_comm]
theorem tAg_cons (c : Dev nD) (o) (l) : tAg c (o :: l) = tAg c l + tallyAt (cell (fwd c o) (3, o)) () N := by
  unfold tAg; rw [List.map_cons, List.sum_cons, add_comm]

/-- What device `c` owes at the start. -/
def O₀ (c : Dev nD) : CellTallies nD τ sig Unit := tBar devs + (tRs c hops + tAg c hops)

def L (g : GSem nD τ sig) : Finset Unit := if g.1.2 = .tc then {()} else ∅
/-- The barrier comes first, then the received chunks, then the received gathers. -/
def lvOf : Option (Option Lane) → ℕ
  | none => 0
  | some none => 1
  | some (some k) => if k.1 = 1 then 2 else if k.1 = 3 then 3 else 0
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (barCell c) u = 1 := rfl
theorem lv_lane (c : Dev nD) (k : Lane) (u) : lv (cell c k) u = lvOf (some (some k)) := by unfold lv; rw [dec_osem]

/-- A sum of tallies is positive at a cell only where one of them is. -/
theorem pos_sum {α : Type} (f : α → CellTallies nD τ sig Unit) (g : GSem nD τ sig) (u : Unit) :
    ∀ l : List α, 0 < (l.map f).sum g u → ∃ a ∈ l, 0 < f a g u
  | [], h => absurd h (Nat.lt_irrefl 0)
  | a :: l, h => by
    rw [List.map_cons, List.sum_cons, Pi.add_apply, Finsupp.add_apply] at h
    rcases Nat.eq_zero_or_pos (f a g u) with h0 | h0
    · rw [h0, zero_add] at h
      obtain ⟨b, hb, hp⟩ := pos_sum f g u l h
      exact ⟨b, List.mem_cons_of_mem _ hb, hp⟩
    · exact ⟨a, List.mem_cons_self .., h0⟩

theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact absurd h (Nat.lt_irrefl 0)

theorem tBar_pos {l g u} (h : 0 < tBar l g u) : g.1.2 = .tc ∧ lv g () = 1 := by
  obtain ⟨j, -, hp⟩ := pos_sum _ g u l h
  obtain rfl := tally_pos hp; exact ⟨rfl, rfl⟩
theorem tRs_pos {c l g u} (h : 0 < tRs c l g u) : g.1.2 = .tc ∧ lv g () = 2 := by
  obtain ⟨j, -, hp⟩ := pos_sum _ g u l h
  obtain rfl := tally_pos hp; exact ⟨rfl, lv_lane _ _ _⟩
theorem tAg_pos {c l g u} (h : 0 < tAg c l g u) : g.1.2 = .tc ∧ lv g () = 3 := by
  obtain ⟨j, -, hp⟩ := pos_sum _ g u l h
  obtain rfl := tally_pos hp; exact ⟨rfl, lv_lane _ _ _⟩
theorem tRsAg_pos {c l l' g u} (h : 0 < (tRs c l + tAg c l') g u) : g.1.2 = .tc ∧ 1 < lv g () := by
  rw [Pi.add_apply, Finsupp.add_apply] at h
  rcases Nat.eq_zero_or_pos (tRs c l g u) with h0 | h0
  · rw [h0, zero_add] at h
    obtain ⟨h1, h2⟩ := tAg_pos h; exact ⟨h1, by omega⟩
  · obtain ⟨h1, h2⟩ := tRs_pos h0; exact ⟨h1, by omega⟩
theorem O₀_pos {c g u} (h : 0 < O₀ c g u) : g.1.2 = .tc ∧ 0 < lv g () := by
  unfold O₀ at h
  rw [Pi.add_apply, Finsupp.add_apply] at h
  rcases Nat.eq_zero_or_pos (tBar devs g u) with h0 | h0
  · rw [h0, zero_add] at h
    obtain ⟨h1, h2⟩ := tRsAg_pos h; exact ⟨h1, by omega⟩
  · obtain ⟨h1, h2⟩ := tBar_pos h0; exact ⟨h1, by omega⟩

theorem L_of_tc {g : GSem nD τ sig} (h : g.1.2 = .tc) (u : Unit) : u ∈ L g := by unfold L; rw [if_pos h]; exact Finset.mem_singleton_self _

/-- A core may wait on a cell whose level is under every cell it owes. -/
theorem mayWait_of (c : Dev nD) (sm : SemLoc sig) (O : CellTallies nD τ sig Unit) (b : ℕ) (hb : lv ((c : Thread nD τ), sm) () ≤ b)
    (hO : ∀ g u, 0 < O g u → g.1.2 = .tc ∧ b < lv g ()) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => L_of_tc (hO g u hg).1 u)
    (fun p hp => by rw [Finset.mem_singleton.mp hp]; exact hb)
    (fun g u hg => (hO g u hg).2)

theorem mayWait_bar (c : Dev nD) : (levAts L lv : sProp 𝕄) ⊢ MayWait (c : Thread nD τ) (.reg barS) () (tRs c hops + tAg c hops) :=
  mayWait_of c _ _ 1 (le_of_eq rfl) fun g u h => tRsAg_pos h
theorem mayWait_rs (c : Dev nD) (o : Fin 15) : (levAts L lv : sProp 𝕄) ⊢ MayWait (c : Thread nD τ) (osem (1, o)) () (tAg c hops) :=
  mayWait_of c _ _ 2 (le_of_eq (lv_lane _ _ _)) fun g u h => ⟨(tAg_pos h).1, by rw [(tAg_pos h).2]; decide⟩

/-! ## The protocol's ghost state -/

/-- A cell of the protocol. -/
abbrev CI : Type := Dev nD × Option Lane
def ciCell (x : CI) : GSem nD τ sig := match x.2 with
  | none => barCell x.1
  | some k => cell x.1 k
theorem ciCell_inj : Function.Injective ciCell := by
  rintro ⟨c, _ | k⟩ ⟨c', _ | k'⟩ h
  · obtain rfl : c = c' := congrArg (fun g : GSem nD τ sig => g.1.1) h
    rfl
  · have h2 : SemLoc.reg barS = osem k' := (Prod.ext_iff.mp h).2
    cases h2
  · have h2 : osem k = SemLoc.reg barS := (Prod.ext_iff.mp h).2
    cases h2
  · obtain rfl : c = c' := congrArg (fun g : GSem nD τ sig => g.1.1) h
    have h2 : osem k = osem k' := (Prod.ext_iff.mp h).2
    rw [osem_inj h2]

/-- The invariants of all cells, at the names `K`, and that every barrier cell is at its round. -/
def invs (K : GSem nD τ sig → ℕ) : sProp 𝕄 :=
  iprop(bigSep Finset.univ (fun x : CI => cellInv ER (sched B) (K (ciCell x)) (ciCell x))
    ∗ bigSep Finset.univ (fun j : Dev nD => reached ER (barCell j) 0))

instance invs_persistent (K : GSem nD τ sig → ℕ) : BI.Persistent (invs B K) := by unfold invs; infer_instance

theorem invs_bar (K : GSem nD τ sig → ℕ) (c : Dev nD) : invs B K ⊢ cellInv ER (sched B) (K (barCell c)) (barCell c) := by
  unfold invs
  iintro ⟨H, -⟩
  iapply (show bigSep Finset.univ (fun x : CI => cellInv ER (sched B) (K (ciCell x)) (ciCell x)) ⊢ cellInv ER (sched B) (K (barCell c)) (barCell c)
    from bigSep_elim (Finset.mem_univ ((c, none) : CI))); iexact H
theorem invs_lane (K : GSem nD τ sig → ℕ) (c : Dev nD) (k : Lane) : invs B K ⊢ cellInv ER (sched B) (K (cell c k)) (cell c k) := by
  unfold invs
  iintro ⟨H, -⟩
  iapply (show bigSep Finset.univ (fun x : CI => cellInv ER (sched B) (K (ciCell x)) (ciCell x)) ⊢ cellInv ER (sched B) (K (cell c k)) (cell c k)
    from bigSep_elim (Finset.mem_univ ((c, some k) : CI))); iexact H
theorem invs_reached (K : GSem nD τ sig → ℕ) (c : Dev nD) : invs B K ⊢ reached ER (barCell c) 0 := by
  unfold invs
  iintro ⟨-, H⟩
  iapply (show bigSep Finset.univ (fun j : Dev nD => (reached ER (barCell j) 0 : sProp 𝕄)) ⊢ reached ER (barCell c) 0
    from bigSep_elim (Finset.mem_univ c)); iexact H

/-- The duties device `c` pays: a unit to every barrier cell, and for each hop its own two send cells and the two cells
    its transfers land in. -/
def toks (c : Dev nD) : sProp 𝕄 :=
  iprop(bigSep Finset.univ (fun j : Dev nD => dutyTok ER (barCell j) 0 c)
    ∗ bigSep Finset.univ (fun o : Fin 15 => dutyTok ER (cell c (0, o)) 0 (0 : Dev nD))
    ∗ bigSep Finset.univ (fun o : Fin 15 => dutyTok ER (cell (fwd c o) (1, o)) 0 (0 : Dev nD))
    ∗ bigSep Finset.univ (fun o : Fin 15 => dutyTok ER (cell c (2, o)) 0 (0 : Dev nD))
    ∗ bigSep Finset.univ (fun o : Fin 15 => dutyTok ER (cell (fwd c o) (3, o)) 0 (0 : Dev nD)))

/-- The credits device `c` waits with. -/
def creds (c : Dev nD) : sProp 𝕄 :=
  iprop(cred (tallyAt (barCell c) () 16)
    ∗ bigSep Finset.univ (fun o : Fin 15 => cred (tallyAt (cell c (1, o)) () N))
    ∗ bigSep Finset.univ (fun o : Fin 15 => cred (tallyAt (cell c (3, o)) () N)))

/-- What device `c` carries from the launch: its transfer cells are dormant. -/
def start (c : Dev nD) : sProp 𝕄 :=
  iprop(∃ K, invs B K ∗ atPos ER (barCell c) 0 ∅ 0 ∗ bigSep Finset.univ (fun k : Lane => openTok ER (cell c k)) ∗ toks c ∗ creds c)

/-- With its transfer cells open. -/
def opened (c : Dev nD) : sProp 𝕄 :=
  iprop(∃ K, invs B K ∗ atPos ER (barCell c) 0 ∅ 0
    ∗ bigSep Finset.univ (fun k : Lane => iprop(atPos ER (cell c k) 0 ∅ 0 ∗ reached ER (cell c k) 0)) ∗ toks c ∗ creds c)

theorem close (κ : ℕ) (g : GSem nD τ sig) :
    iprop(cellInv ER (sched B) κ g ∗ atPos ER g (0 + 1) ∅ 0) ⊢ (|={Set.univ}=> semVal g 0 : sProp 𝕄) :=
  Rounds.cell_close ER (sched B) (Set.mem_univ κ) id (duties_later B g)

end Cert.KernelIdeal.Ring
-- ==== Proof.Steps.lean ====
module

public import proofs.«01_k».proof.Proof.Protocol

@[expose] public section

noncomputable section

/-! # One step of each loop

The rule of a loop over a list, and what one step of every loop of the body does. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-- Run on device `c`'s core. -/
abbrev runs (c : Dev nD) {α : Type} (p : P F α) (K : α → sProp 𝕄) : sProp 𝕄 :=
  wp frame (wpE (defs₀ (F := F)) 𝒱₀ (c : Thread nD τ) none) Set.univ p K

/-! ## Loops -/

/-- A loop: `I l` is held while `l` is still to run; each step turns its own `A a` into `Z a`. -/
theorem each_runs (c : Dev nD) {α : Type} (f : α → P F PUnit) (I : List α → sProp 𝕄) (A Z : α → sProp 𝕄)
    (step : ∀ a l (K : PUnit → sProp 𝕄), iprop(I (a :: l) ∗ A a ∗ (iprop(I l ∗ Z a) -∗ K ⟨⟩)) ⊢ runs c (f a) K) :
    ∀ l (K : PUnit → sProp 𝕄), iprop(I l ∗ bigSepL l A ∗ (iprop(I [] ∗ bigSepL l Z) -∗ K ⟨⟩)) ⊢ runs c (each f l) K
  | [], K => by
    unfold each runs
    rw [wp_pure]
    iintro ⟨HI, -, HK⟩
    imodintro
    iapply HK
    isplitl [HI]; · iexact HI
    rw [bigSepL_nil]; iempintro
  | a :: l, K => by
    show _ ⊢ runs c (f a >>= fun _ => each f l) K
    unfold runs
    rw [wp_bind, bigSepL_cons', bigSepL_cons']
    iintro ⟨HI, ⟨HA, HAs⟩, HK⟩
    iapply (step a l (fun _ => runs c (each f l) K))
    isplitl [HI]; · iexact HI
    isplitl [HA]; · iexact HA
    iintro ⟨HI, HZ⟩
    iapply (each_runs c f I A Z step l K)
    isplitl [HI]; · iexact HI
    isplitl [HAs]; · iexact HAs
    iintro ⟨HI, HZs⟩
    iapply HK
    isplitl [HI]; · iexact HI
    isplitl [HZ] <;> iassumption

/-- A loop that threads a value. -/
theorem thread_runs (c : Dev nD) {α β : Type} (f : β → α → P F β) (g : β → α → β) (I : List α → sProp 𝕄) (A Z : α → sProp 𝕄)
    (step : ∀ b a l (K : β → sProp 𝕄), iprop(I (a :: l) ∗ A a ∗ (iprop(I l ∗ Z a) -∗ K (g b a))) ⊢ runs c (f b a) K) :
    ∀ l b (K : β → sProp 𝕄), iprop(I l ∗ bigSepL l A ∗ (iprop(I [] ∗ bigSepL l Z) -∗ K (l.foldl g b))) ⊢ runs c (thread f b l) K
  | [], b, K => by
    unfold thread runs
    rw [wp_pure, List.foldl_nil]
    iintro ⟨HI, -, HK⟩
    imodintro
    iapply HK
    isplitl [HI]; · iexact HI
    rw [bigSepL_nil]; iempintro
  | a :: l, b, K => by
    show _ ⊢ runs c (f b a >>= fun b' => thread f b' l) K
    unfold runs
    rw [wp_bind, bigSepL_cons', bigSepL_cons', List.foldl_cons]
    iintro ⟨HI, ⟨HA, HAs⟩, HK⟩
    iapply (step b a l (fun b' => runs c (thread f b' l) K))
    isplitl [HI]; · iexact HI
    isplitl [HA]; · iexact HA
    iintro ⟨HI, HZ⟩
    iapply (thread_runs c f g I A Z step l (g b a) K)
    isplitl [HI]; · iexact HI
    isplitl [HAs]; · iexact HAs
    iintro ⟨HI, HZs⟩
    iapply HK
    isplitl [HI]; · iexact HI
    isplitl [HZ] <;> iassumption

theorem univ_hops (Φ : Fin 15 → sProp 𝕄) : bigSep Finset.univ Φ = bigSepL hops Φ := bigSep_univ_eq_bigSepL hops (by decide) (by decide) Φ
theorem univ_devs (Φ : Dev nD → sProp 𝕄) : bigSep Finset.univ Φ = bigSepL devs Φ := bigSep_univ_eq_bigSepL devs (by decide) (by decide) Φ

variable (B : Dev nD → Blocks F) (K₀ : GSem nD τ sig → ℕ) (c : Dev nD)

/-- The core owes `O`. -/
abbrev owing (O : CellTallies nD τ sig Unit) : sProp 𝕄 := iprop(∃ W, owes (c : Thread nD τ) O W)

/-! ## The signals -/

theorem signal_step (R : CellTallies nD τ sig Unit) (j : Dev nD) (l : List (Dev nD)) (K : PUnit → sProp 𝕄) :
    iprop((invs B K₀ ∗ owing c (tBar (j :: l) + R)) ∗ (dutyTok ER (barCell j) 0 c ∗ barPay j c)
        ∗ (iprop((invs B K₀ ∗ owing c (tBar l + R)) ∗ emp) -∗ K ⟨⟩))
      ⊢ runs c (semSignalWord j barS 1#32) K := by
  show _ ⊢ runs c (.op (.semSignal ((j : Thread nD τ)) barS 1) .ret) K
  iintro ⟨⟨#HI, ⟨%W, HO⟩⟩, ⟨Ht, Hp⟩, HK⟩
  ihave #Hc := (invs_bar B K₀ j) $$ HI
  ihave #Hr := (invs_reached B K₀ j) $$ HI
  iapply (Rounds.wp_signal 𝒱₀ ER (sched B) (c : Thread nD τ) none (dst := (j : Thread nD τ)) (sem := barS) (r := 0) (d := c) (κ := K₀ (barCell j))
      (by rw [duties_bar]; exact Finset.mem_univ _) (amount_bar B j c) () (tBar l + R) (tBar_cons j l R)) $$ [HO Ht Hp]
  · isplitr; · iexact Hc
    isplitl [HO]; · iexact HO
    isplitl [Ht]; · iexact Ht
    isplitl [Hp]; · rw [payload_bar]; iexact Hp
    iexact Hr
  iintro HO
  rw [wp_ret]
  imodintro
  iapply HK
  isplitl [HO]
  · isplitr; · iexact HI
    iexists W; iexact HO
  · iempintro

/-! ## Waits for a transfer cell -/

theorem lane_wait (k : Lane) (O : CellTallies nD τ sig Unit) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (osem k) N K)
    (K : PUnit → sProp 𝕄) :
    iprop(invs B K₀ ∗ cred (tallyAt (cell c k) () N) ∗ atPos ER (cell c k) 0 ∅ 0 ∗ owing c O ∗ MayWait (c : Thread nD τ) (osem k) () O
        ∗ (iprop(owing c O ∗ atPos ER (cell c k) (0 + 1) ∅ 0 ∗ lanePay B c k) -∗ K ⟨⟩))
      ⊢ runs c (Prog.lift w) K := by
  show _ ⊢ runs c (.op w .ret) K
  iintro ⟨#HI, Hc, Hat, ⟨%W, HO⟩, HM, HK⟩
  ihave #Hi := (invs_lane B K₀ c k) $$ HI
  iapply (Rounds.wp_wait_rest_token 𝒱₀ ER (sched B) (c : Thread nD τ) none (κ := K₀ (cell c k))
      hw (Set.mem_univ _) () (O := O) (W := W) (R := 0) (m := 0) (T := ∅) ((Nat.zero_add _).trans (expect_lane B c k).symm)) $$ [Hc HO HM Hat]
  · isplitr; · iexact Hi
    isplitl [Hc]; · iexact Hc
    isplitl [HO]; · iexact HO
    isplitl [HM]; · iexact HM
    iexact Hat
  iintro ⟨HO, Hat, -, Hp⟩
  ihave Hp := (Entails.of_eq (rest_lane B c k)) $$ Hp
  rw [wp_ret]
  imodintro
  iapply HK
  isplitl [HO]; · iexists _; iexact HO
  isplitl [Hat]; · iexact Hat
  iexact Hp

/-! ## Attention -/

/-- The context is right at every head that is not in `l`. -/
def ctxOk (l : List (Fin 2 × Fin 8)) (f : S1024x512.Idx → Elt F .bf16) : Prop := ∀ i, headOf i ∉ l → f i = ctxV B c i

abbrev holds {cs : CoreSpace} {s : Shape} {e : EltTy} (m : Memref sig .tc cs s e) (f : Buf (Elt F) (m.view.loc (c : Thread nD τ))) : sProp 𝕄 :=
  m.view.loc (c : Thread nD τ) ↦{fullShare} f

theorem ctxOk_write (h : Fin 2 × Fin 8) (l : List (Fin 2 × Fin 8)) (f : S1024x512.Idx → Elt F .bf16) (hf : ctxOk B c (h :: l) f) :
    ctxOk B c l ((mCtx.access (headR h)).write (Elt F) f (headV B c h) Finset.univ) := by
  intro i hi
  by_cases hh : headOf i = h
  · refine write_agree (mCtx.access (headR h)) f (ctxV B c) _ (read_ctx_head B c h) i ?_
    subst hh
    exact Finset.mem_map.mpr ⟨inHead i, Finset.mem_univ _, headR_inHead i⟩
  · rw [View.write_of_not_mem]
    · exact hf i fun h' => (List.mem_cons.mp h').elim hh hi
    · intro hm
      obtain ⟨x, -, hx⟩ := Finset.mem_map.mp hm
      exact hh (by rw [← hx]; exact headOf_emb h x)

def headInv (l : List (Fin 2 × Fin 8)) : sProp 𝕄 :=
  iprop(holds c mQ (qV B c) ∗ holds c mKb (kV B c) ∗ holds c mVb (vV B c) ∗ ∃ f, ⌜ctxOk B c l f⌝ ∗ holds c mCtx f)

theorem head_step (h : Fin 2 × Fin 8) (l : List (Fin 2 × Fin 8)) (K : PUnit → sProp 𝕄) :
    iprop(headInv B c (h :: l) ∗ emp ∗ (iprop(headInv B c l ∗ emp) -∗ K ⟨⟩)) ⊢ runs c (headStep h) K := by
  unfold headStep headInv
  simp only [Prog.bind_lift]
  iintro ⟨⟨Hq, Hk, Hv, ⟨%f, %hf, Hc⟩⟩, -, HK⟩
  iapply (wp_load_rect 𝒱₀ (c : Thread nD τ) none Set.univ (m := mQ) (r := headR h) (S := Finset.univ) (f := qV B c) (Finset.subset_univ _)) $$ Hq
  iintro Hq
  iapply (wp_load_rect 𝒱₀ (c : Thread nD τ) none Set.univ (m := mKb) (r := headR h) (S := Finset.univ) (f := kV B c) (Finset.subset_univ _)) $$ Hk
  iintro Hk
  iapply (wp_load_rect 𝒱₀ (c : Thread nD τ) none Set.univ (m := mVb) (r := headR h) (S := Finset.univ) (f := vV B c) (Finset.subset_univ _)) $$ Hv
  iintro Hv
  iapply (wp_load_rect 𝒱₀ (c : Thread nD τ) none Set.univ (m := mCtx) (r := headR h) (S := Finset.univ) (f := f) (Finset.subset_univ _)) $$ Hc
  iintro Hc
  iapply (wp_store 𝒱₀ (c : Thread nD τ) none Set.univ (m := mCtx) (r := headR h) (Mk := Finset.univ) (S := Finset.univ) (f := f) (Finset.subset_univ _)) $$ Hc
  iintro Hc
  rw [wp_ret]
  imodintro
  iapply HK
  isplitl
  · isplitl [Hq]; · iexact Hq
    isplitl [Hk]; · iexact Hk
    isplitl [Hv]; · iexact Hv
    iexists ((mCtx.access (headR h)).write (Elt F) f (headV B c h) Finset.univ)
    isplitr; · ipureintro; exact ctxOk_write B c h l f hf
    iexact Hc
  · iempintro

/-! ## Whole blocks -/

theorem read_allX (m : Memref sig .tc .vmem S1024x768 .bf16) (f) : (m.access allX).read (Elt F) f = m.view.read (Elt F) f := by
  funext x
  show m.view.read (Elt F) f (allX.emb x) = _
  exact congrArg _ (Rect.emb_unit_full (s := S1024x768) _ x)
theorem read_allK (m : Memref sig .tc .vmem S1024x512 .bf16) (f) : (m.access allK).read (Elt F) f = m.view.read (Elt F) f := by
  funext x
  show m.view.read (Elt F) f (allK.emb x) = _
  exact congrArg _ (Rect.emb_unit_full (s := S1024x512) _ x)
theorem read_allWq (m : Memref sig .tc .vmem S768x512 .bf16) (f) : (m.access allWq).read (Elt F) f = m.view.read (Elt F) f := by
  funext x
  show m.view.read (Elt F) f (allWq.emb x) = _
  exact congrArg _ (Rect.emb_unit_full (s := S768x512) _ x)
theorem read_allWo (m : Memref sig .tc .vmem S512x768 .bf16) (f) : (m.access allWo).read (Elt F) f = m.view.read (Elt F) f := by
  funext x
  show m.view.read (Elt F) f (allWo.emb x) = _
  exact congrArg _ (Rect.emb_unit_full (s := S512x768) _ x)
theorem read_allRed (m : Memref sig .tc .vmem S64x768 .bf16) (f) : (m.access allRed).read (Elt F) f = m.view.read (Elt F) f := by
  funext x
  show m.view.read (Elt F) f (allRed.emb x) = _
  exact congrArg _ (Rect.emb_unit_full (s := S64x768) _ x)

/-- A view every element of the buffer lies in: a write leaves what reads as what was written. -/
theorem write_all {κ : Kind} {sp : Space} {s : Shape} {e : EltTy} (v : View sig κ sp s e) (f g : v.ty.Contents (Elt F))
    (w : s.Idx → Elt F e) (h : v.read (Elt F) g = w) (hs : ∀ i, i ∈ v.set) : v.write (Elt F) f w Finset.univ = g :=
  funext fun i => write_agree v f g w h i (hs i)

theorem write_xb (f w : S1024x768.Idx → Elt F .bf16) : (mXb.access allX).write (Elt F) f w Finset.univ = w :=
  write_all (mXb.access allX) f w w (read_allX mXb w) fun (i : S1024x768.Idx) => Finset.mem_map.mpr ⟨i, Finset.mem_univ _, Rect.emb_unit_full (s := S1024x768) _ i⟩
theorem write_kb (f w : S1024x512.Idx → Elt F .bf16) : (mKb.access allK).write (Elt F) f w Finset.univ = w :=
  write_all (mKb.access allK) f w w (read_allK mKb w) fun (i : S1024x512.Idx) => Finset.mem_map.mpr ⟨i, Finset.mem_univ _, Rect.emb_unit_full (s := S1024x512) _ i⟩
theorem write_vb (f w : S1024x512.Idx → Elt F .bf16) : (mVb.access allK).write (Elt F) f w Finset.univ = w :=
  write_all (mVb.access allK) f w w (read_allK mVb w) fun (i : S1024x512.Idx) => Finset.mem_map.mpr ⟨i, Finset.mem_univ _, Rect.emb_unit_full (s := S1024x512) _ i⟩
theorem write_q (f w : S1024x512.Idx → Elt F .bf16) : (mQ.access allK).write (Elt F) f w Finset.univ = w :=
  write_all (mQ.access allK) f w w (read_allK mQ w) fun (i : S1024x512.Idx) => Finset.mem_map.mpr ⟨i, Finset.mem_univ _, Rect.emb_unit_full (s := S1024x512) _ i⟩
theorem write_red (f w : S64x768.Idx → Elt F .bf16) : (mRed.access allRed).write (Elt F) f w Finset.univ = w :=
  write_all (mRed.access allRed) f w w (read_allRed mRed w) fun (i : S64x768.Idx) => Finset.mem_map.mpr ⟨i, Finset.mem_univ _, Rect.emb_unit_full (s := S64x768) _ i⟩

/-- What the windows hold. -/
def inputs : sProp 𝕄 :=
  iprop(holds c mX (B c).x ∗ holds c mWq (B c).wq ∗ holds c mK (B c).k ∗ holds c mV (B c).v ∗ holds c mWo (B c).wo)

theorem prologue_runs (K : PUnit → sProp 𝕄) :
    iprop(inputs B c ∗ (∃ f, holds c mXb f) ∗ (∃ f, holds c mKb f) ∗ (∃ f, holds c mVb f) ∗ (∃ f, holds c mQ f)
        ∗ (iprop(inputs B c ∗ holds c mXb (xV B c) ∗ holds c mKb (kV B c) ∗ holds c mVb (vV B c) ∗ holds c mQ (qV B c)) -∗ K ⟨⟩))
      ⊢ runs c prologue K := by
  unfold prologue inputs
  simp only [Prog.bind_lift]
  iintro ⟨⟨Hx, Hwq, Hk, Hv, Hwo⟩, ⟨%f0, Hxb⟩, ⟨%f1, Hkb⟩, ⟨%f2, Hvb⟩, ⟨%f3, Hq⟩, HK⟩
  iapply (wp_load_rect 𝒱₀ (c : Thread nD τ) none Set.univ (m := mX) (r := allX) (S := Finset.univ) (f := (B c).x) (Finset.subset_univ _)) $$ Hx
  iintro Hx
  rw [show (mX.access allX).read (Elt F) (B c).x = (B c).x from read_allX mX (B c).x]
  iapply (wp_load_rect 𝒱₀ (c : Thread nD τ) none Set.univ (m := mXb) (r := allX) (S := Finset.univ) (f := f0) (Finset.subset_univ _)) $$ Hxb
  iintro Hxb
  iapply (wp_store 𝒱₀ (c : Thread nD τ) none Set.univ (m := mXb) (r := allX) (Mk := Finset.univ) (S := Finset.univ) (f := f0) (Finset.subset_univ _)) $$ Hxb
  iintro Hxb
  rw [write_xb f0 (k0_pay1 (B c).x)]
  iapply (wp_load_rect 𝒱₀ (c : Thread nD τ) none Set.univ (m := mK) (r := allK) (S := Finset.univ) (f := (B c).k) (Finset.subset_univ _)) $$ Hk
  iintro Hk
  rw [show (mK.access allK).read (Elt F) (B c).k = (B c).k from read_allK mK (B c).k]
  iapply (wp_load_rect 𝒱₀ (c : Thread nD τ) none Set.univ (m := mKb) (r := allK) (S := Finset.univ) (f := f1) (Finset.subset_univ _)) $$ Hkb
  iintro Hkb
  iapply (wp_store 𝒱₀ (c : Thread nD τ) none Set.univ (m := mKb) (r := allK) (Mk := Finset.univ) (S := Finset.univ) (f := f1) (Finset.subset_univ _)) $$ Hkb
  iintro Hkb
  rw [write_kb f1 (k0_pay2 (B c).k)]
  iapply (wp_load_rect 𝒱₀ (c : Thread nD τ) none Set.univ (m := mV) (r := allK) (S := Finset.univ) (f := (B c).v) (Finset.subset_univ _)) $$ Hv
  iintro Hv
  rw [show (mV.access allK).read (Elt F) (B c).v = (B c).v from read_allK mV (B c).v]
  iapply (wp_load_rect 𝒱₀ (c : Thread nD τ) none Set.univ (m := mVb) (r := allK) (S := Finset.univ) (f := f2) (Finset.subset_univ _)) $$ Hvb
  iintro Hvb
  iapply (wp_store 𝒱₀ (c : Thread nD τ) none Set.univ (m := mVb) (r := allK) (Mk := Finset.univ) (S := Finset.univ) (f := f2) (Finset.subset_univ _)) $$ Hvb
  iintro Hvb
  rw [write_vb f2 (k0_pay3 (B c).v)]
  iapply (wp_load_rect 𝒱₀ (c : Thread nD τ) none Set.univ (m := mXb) (r := allX) (S := Finset.univ) (f := k0_pay1 (B c).x) (Finset.subset_univ _)) $$ Hxb
  iintro Hxb
  rw [show (mXb.access allX).read (Elt F) (k0_pay1 (B c).x) = xV B c from read_allX mXb (xV B c)]
  iapply (wp_load_rect 𝒱₀ (c : Thread nD τ) none Set.univ (m := mWq) (r := allWq) (S := Finset.univ) (f := (B c).wq) (Finset.subset_univ _)) $$ Hwq
  iintro Hwq
  rw [show (mWq.access allWq).read (Elt F) (B c).wq = (B c).wq from read_allWq mWq (B c).wq]
  iapply (wp_load_rect 𝒱₀ (c : Thread nD τ) none Set.univ (m := mQ) (r := allK) (S := Finset.univ) (f := f3) (Finset.subset_univ _)) $$ Hq
  iintro Hq
  iapply (wp_store 𝒱₀ (c : Thread nD τ) none Set.univ (m := mQ) (r := allK) (Mk := Finset.univ) (S := Finset.univ) (f := f3) (Finset.subset_univ _)) $$ Hq
  iintro Hq
  rw [write_q f3 (k0_pay4 (xV B c) (B c).wq), wp_ret]
  imodintro
  iapply HK
  isplitl [Hx Hwq Hk Hv Hwo]
  · isplitl [Hx]; · iexact Hx
    isplitl [Hwq]; · iexact Hwq
    isplitl [Hk]; · iexact Hk
    isplitl [Hv]; · iexact Hv
    iexact Hwo
  isplitl [Hxb]; · iexact Hxb
  isplitl [Hkb]; · iexact Hkb
  isplitl [Hvb]; · iexact Hvb
  iexact Hq

/-! ## The exchange of products -/

theorem part_written (r : Fin 16) (j : Dev nD) (hj : c + r = j) (f : S1024x768.Idx → Elt F .bf16) (w : FVec F S64x768 .bf16) (hw : w = partV B c j) :
    ((mPart.access (partR c r)).loc (c : Thread nD τ) ↦[rowsSet j]{fullShare} (mPart.access (partR c r)).write (Elt F) f w Finset.univ : sProp 𝕄)
      = ptPart c j (partBuf B c) := by
  subst hj
  exact pointsTo_congr fun i hi => write_agree (mPart.access (partR c r)) f (partBuf B c) _ ((read_partR B c c r).trans hw.symm) i (by rw [set_partR]; exact hi)
theorem slot_written (f : S16x64x768.Idx → Elt F .bf16) :
    ((mSlots.access (ownSlotR c)).loc (c : Thread nD τ) ↦[slotSet c]{fullShare} (mSlots.access (ownSlotR c)).write (Elt F) f (slotVec B c c) Finset.univ : sProp 𝕄)
      = ptSlot c c (slotBuf B c) :=
  pointsTo_congr fun i hi => write_agree (mSlots.access (ownSlotR c)) f (slotBuf B c) _ (read_ownSlot B c) i (by rw [set_ownSlot]; exact hi)
theorem ag_written (f : S1024x768.Idx → Elt F .bf16) (w : FVec F S64x768 .bf16) (hw : w = redV B c) :
    ((mAg.access (ownRowsR c)).loc (c : Thread nD τ) ↦[rowsSet c]{fullShare} (mAg.access (ownRowsR c)).write (Elt F) f w Finset.univ : sProp 𝕄)
      = ptAg c c (agBuf B) :=
  pointsTo_congr fun i hi => write_agree (mAg.access (ownRowsR c)) f (agBuf B) _ ((read_ownRowsAg B c).trans hw.symm) i (by rw [set_ownRowsAg]; exact hi)

theorem own_runs (K : PUnit → sProp 𝕄) :
    iprop(holds c mCtx (ctxV B c) ∗ holds c mWo (B c).wo ∗ (∃ f, ptPart c c f) ∗ (∃ f, ptSlot c c f)
        ∗ (iprop(holds c mCtx (ctxV B c) ∗ holds c mWo (B c).wo ∗ ptPart c c (partBuf B c) ∗ ptSlot c c (slotBuf B c)) -∗ K ⟨⟩))
      ⊢ runs c (ownStep c) K := by
  unfold ownStep
  simp only [Prog.bind_lift]
  iintro ⟨Hc, Hw, ⟨%f, Hp⟩, ⟨%g, Hs⟩, HK⟩
  iapply (wp_load_rect 𝒱₀ (c : Thread nD τ) none Set.univ (m := mCtx) (r := ctxR c 0) (S := Finset.univ) (f := ctxV B c) (Finset.subset_univ _)) $$ Hc
  iintro Hc
  rw [show (mCtx.access (ctxR c 0)).read (Elt F) (ctxV B c) = ctxRows c (ctxV B c) from (read_ctxR c 0 _).trans (by rw [dev_add_zero])]
  iapply (wp_load_rect 𝒱₀ (c : Thread nD τ) none Set.univ (m := mWo) (r := allWo) (S := Finset.univ) (f := (B c).wo) (Finset.subset_univ _)) $$ Hw
  iintro Hw
  rw [show (mWo.access allWo).read (Elt F) (B c).wo = (B c).wo from read_allWo mWo (B c).wo]
  iapply (wp_load_rect 𝒱₀ (c : Thread nD τ) none Set.univ (m := mPart) (r := partR c 0) (S := rowsSet c) (f := f) (by rw [set_partR, dev_add_zero])) $$ Hp
  iintro Hp
  iapply (wp_store 𝒱₀ (c : Thread nD τ) none Set.univ (m := mPart) (r := partR c 0) (Mk := Finset.univ) (S := rowsSet c) (f := f)
    (by rw [show (mPart.access (partR c 0)).setOn Finset.univ = rowsSet (c + 0) from set_partR c 0, dev_add_zero])) $$ Hp
  iintro Hp
  iapply (wp_load_rect 𝒱₀ (c : Thread nD τ) none Set.univ (m := mSlots) (r := ownSlotR c) (S := slotSet c) (f := g) (by rw [set_ownSlot])) $$ Hs
  iintro Hs
  rw [own_slot B c]
  iapply (wp_store 𝒱₀ (c : Thread nD τ) none Set.univ (m := mSlots) (r := ownSlotR c) (Mk := Finset.univ) (S := slotSet c) (f := g)
    (by rw [show (mSlots.access (ownSlotR c)).setOn Finset.univ = slotSet c from set_ownSlot c])) $$ Hs
  iintro Hs
  ihave Hs := (Entails.of_eq (slot_written B c g)) $$ Hs
  ihave Hp := (Entails.of_eq (part_written B c 0 c (dev_add_zero c) f (k0_pay43 (ctxRows c (ctxV B c)) (k0_pay41 (B c).wo)) rfl)) $$ Hp
  rw [wp_ret]
  imodintro
  iapply HK
  isplitl [Hc]; · iexact Hc
  isplitl [Hw]; · iexact Hw
  isplitl [Hp]; · iexact Hp
  iexact Hs

/-- What a hop's send of a product takes. -/
def rsIn (o : Fin 15) : sProp 𝕄 :=
  iprop((∃ f, ptPart c (fwd c o) f) ∗ (∃ f, ptSlot (fwd c o) c f)
    ∗ dutyTok ER (cell c (0, o)) 0 (0 : Dev nD) ∗ reached ER (cell c (0, o)) 0
    ∗ dutyTok ER (cell (fwd c o) (1, o)) 0 (0 : Dev nD) ∗ reached ER (cell (fwd c o) (1, o)) 0)
def rsInv (R : CellTallies nD τ sig Unit) (l : List (Fin 15)) : sProp 𝕄 :=
  iprop(invs B K₀ ∗ holds c mCtx (ctxV B c) ∗ holds c mWo (B c).wo ∗ owing c (tRs c l + R))

theorem rs_step (R : CellTallies nD τ sig Unit) (o : Fin 15) (l : List (Fin 15)) (K : PUnit → sProp 𝕄) :
    iprop(rsInv B K₀ c R (o :: l) ∗ rsIn c o ∗ (iprop(rsInv B K₀ c R l ∗ cred (tallyAt (cell c (0, o)) () N)) -∗ K ⟨⟩))
      ⊢ runs c (rsStep c o) K := by
  unfold rsStep rsInv rsIn
  rw [← next_eq c o]
  simp only [Prog.bind_lift]
  iintro ⟨⟨#HI, Hc, Hw, ⟨%W, HO⟩⟩, ⟨⟨%f, Hp⟩, ⟨%g, Hs⟩, Ht0, Hr0, Ht1, Hr1⟩, HK⟩
  ihave #Hi0 := (invs_lane B K₀ c (0, o)) $$ HI
  ihave #Hi1 := (invs_lane B K₀ (next c o) (1, o)) $$ HI
  iapply (wp_load_rect 𝒱₀ (c : Thread nD τ) none Set.univ (m := mCtx) (r := ctxR c o.succ) (S := Finset.univ) (f := ctxV B c) (Finset.subset_univ _)) $$ Hc
  iintro Hc
  rw [show (mCtx.access (ctxR c o.succ)).read (Elt F) (ctxV B c) = ctxRows (c + o.succ) (ctxV B c) from read_ctxR c o.succ _]
  iapply (wp_load_rect 𝒱₀ (c : Thread nD τ) none Set.univ (m := mWo) (r := allWo) (S := Finset.univ) (f := (B c).wo) (Finset.subset_univ _)) $$ Hw
  iintro Hw
  rw [show (mWo.access allWo).read (Elt F) (B c).wo = (B c).wo from read_allWo mWo (B c).wo]
  have hn : next c o = c + o.succ := next_eq c o
  iapply (wp_load_rect 𝒱₀ (c : Thread nD τ) none Set.univ (m := mPart) (r := partR c o.succ) (S := rowsSet (next c o)) (f := f) (by rw [set_partR, hn])) $$ Hp
  iintro Hp
  iapply (wp_store 𝒱₀ (c : Thread nD τ) none Set.univ (m := mPart) (r := partR c o.succ) (Mk := Finset.univ) (S := rowsSet (next c o)) (f := f)
    (by rw [show (mPart.access (partR c o.succ)).setOn Finset.univ = rowsSet (c + o.succ) from set_partR c o.succ, hn])) $$ Hp
  iintro Hp
  ihave Hp := (Entails.of_eq ((part_written B c o.succ (next c o) hn.symm f (k0_pay45 (ctxRows (c + o.succ) (ctxV B c)) (B c).wo) (by rw [hn]; rfl)).trans
    (show ptPart c (next c o) (partBuf B c) = ((chunkM c o).view.loc (c : Thread nD τ) ↦[(chunkM c o).view.set]{fullShare} partBuf B c : sProp 𝕄)
      by rw [set_chunkM, next_eq]))) $$ Hp
  ihave Hs := (Entails.of_eq (show ((next c o : Thread nD τ).loc cc0_scratch7 ↦[slotSet c]{fullShare} g : sProp 𝕄)
    = ((slotM c).view.loc (next c o : Thread nD τ) ↦[(slotM c).view.set]{fullShare} g) by rw [set_slotM])) $$ Hs
  iapply (Rounds.wp_send_pointsTo 𝒱₀ ER (sched B) (c : Thread nD τ) none (c' := (next c o : Thread nD τ)) (src := chunkM c o) (dst := slotM c)
      (sS := osem (0, o)) (sem := osem (1, o)) (q := fullShare) (fs := partBuf B c) (κ₁ := K₀ (cell c (0, o))) (κ₂ := K₀ (cell (next c o) (1, o)))
      (r₁ := 0) (r₂ := 0) (d₁ := (0 : Dev nD)) (d₂ := (0 : Dev nD)) (fd := g)
      (by rw [duties_lane]; exact Finset.mem_singleton_self _) (by rw [duties_lane]; exact Finset.mem_singleton_self _)
      () () N rfl (amount_lane B c 0 (0, o)) (amount_lane B (next c o) 0 (1, o)) (tRs c l + R) (show tRs c (o :: l) + R = tRs c l + R + tallyAt (cell (next c o) (1, o)) () N by rw [tRs_cons, next_eq]) (W := W)
      (by rw [payload_lane, set_chunkM]; exact .rfl)
      (by
        rw [payload_lane, set_slotM]
        refine Entails.of_eq ?_
        show _ = ptSlot (next c o) (bwd (next c o) o) (slotBuf B (next c o))
        rw [next_eq, bwd_fwd]
        exact pointsTo_congr fun i hi => write_agree (slotM c).view g (slotBuf B (fwd c o)) _ ((read_slotM B c _).trans (read_chunkM B c c o).symm) i (by rw [set_slotM]; exact hi)))
    $$ [Hp Hs HO Ht0 Hr0 Ht1 Hr1]
  · isplitr; · iexact Hi0
    isplitr; · iexact Hi1
    isplitl [Hp]; · iexact Hp
    isplitl [Hs]; · iexact Hs
    isplitl [HO]; · iexact HO
    isplitl [Ht0]; · iexact Ht0
    isplitl [Hr0]; · iexact Hr0
    isplitl [Ht1]; · iexact Ht1
    iexact Hr1
  iintro ⟨Hcr, HO⟩
  rw [wp_ret]
  imodintro
  iapply HK
  isplitr [Hcr]
  · isplitr; · iexact HI
    isplitl [Hc]; · iexact Hc
    isplitl [Hw]; · iexact Hw
    iexists W; iexact HO
  · iexact Hcr

end Cert.KernelIdeal.Ring
-- ==== Proof.Gather.lean ====
module

public import proofs.«01_k».proof.Proof.Steps

@[expose] public section

noncomputable section

/-! # The steps after the products are sent

Receiving and adding the products, publishing the sum, sending it round, and collecting the other devices' sums. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (B : Dev nD → Blocks F) (K₀ : GSem nD τ sig → ℕ) (c : Dev nD)

/-- What a wait on a cell takes, and what it leaves beside the payload. -/
def waitIn (k : Lane) : sProp 𝕄 := iprop(cred (tallyAt (cell c k) () N) ∗ atPos ER (cell c k) 0 ∅ 0)
def waitOut (k : Lane) : sProp 𝕄 := iprop(atPos ER (cell c k) (0 + 1) ∅ 0 ∗ lanePay B c k)

/-! ## The sum -/

def redInv (l : List (Fin 15)) : sProp 𝕄 := iprop(invs B K₀ ∗ levAts L lv ∗ owing c (tAg c hops))

theorem red_step (b : FVec F S64x768 .f32) (o : Fin 15) (l : List (Fin 15)) (K : FVec F S64x768 .f32 → sProp 𝕄) :
    iprop(redInv B K₀ c (o :: l) ∗ waitIn c (1, o) ∗ (iprop(redInv B K₀ c l ∗ waitOut B c (1, o)) -∗ K (addSlot b (slotVec B c (bwd c o)))))
      ⊢ runs c (redStep c b o) K := by
  unfold redStep redInv waitIn waitOut runs
  rw [wp_bind]
  iintro ⟨⟨#HI, #HL, HO⟩, ⟨Hc, Hat⟩, HK⟩
  iapply (lane_wait B K₀ c (1, o) (tAg c hops)
    (w := .waitDma2 (semAt cc0_scratch10 o) (chunkM c o) (slotM c) (xChunk c o) (xSlot c)) (fun _ => wpE_waitDma2_eq 𝒱₀ (c : Thread nD τ) none Set.univ _))
  isplitr; · iexact HI
  isplitl [Hc]; · iexact Hc
  isplitl [Hat]; · iexact Hat
  isplitl [HO]; · iexact HO
  isplitr; · iapply (mayWait_rs c o); iexact HL
  iintro ⟨HO, Hat, Hp⟩
  simp only [Prog.bind_lift]
  ihave Hp := (Entails.of_eq (show lanePay B c (1, o) = ptSlot c (bwd c o) (slotBuf B c) from rfl)) $$ Hp
  iapply (wp_load_rect 𝒱₀ (c : Thread nD τ) none Set.univ (m := mSlots) (r := fromSlotR c o) (S := slotSet (bwd c o)) (f := slotBuf B c) (by rw [set_fromSlot])) $$ Hp
  iintro Hp
  rw [read_fromSlot, wp_pure]
  imodintro
  iapply HK
  isplitl [HO]
  · isplitr; · iexact HI
    isplitr; · iexact HL
    iexact HO
  isplitl [Hat]; · iexact Hat
  ihave Hp := (Entails.of_eq (show ptSlot c (bwd c o) (slotBuf B c) = lanePay B c (1, o) from rfl)) $$ Hp
  iexact Hp

/-! ## Publishing -/

/-- The result is right in every chunk that does not come over a hop of `l`. -/
def outOk (l : List (Fin 15)) (f : S1024x768.Idx → Elt F .f32) : Prop := ∀ i, (∀ o ∈ l, chunkOf i ≠ bwd c o) → f i = outV B c i

theorem mem_hops : ∀ o : Fin 15, o ∈ hops := by decide

theorem outOk_own (f : S1024x768.Idx → Elt F .f32) :
    outOk B c hops ((mOut.access (ownRowsR c)).write (Elt F) f (accV B c) Finset.univ) := by
  intro i hi
  refine write_agree (mOut.access (ownRowsR c)) f (outV B c) _ (read_ownRowsOut B c) i ?_
  rw [set_ownRowsOut]
  have h : chunkOf i ∈ insert c (Finset.univ.image (bwd c)) := by rw [all_bwd]; exact Finset.mem_univ _
  rcases Finset.mem_insert.mp h with h | h
  · exact mem_rowsSet.mpr (congrArg Fin.val h)
  · obtain ⟨o, -, ho⟩ := Finset.mem_image.mp h
    exact absurd ho.symm (hi o (mem_hops o))

theorem outOk_write (o : Fin 15) (l : List (Fin 15)) (f : S1024x768.Idx → Elt F .f32) (hf : outOk B c (o :: l) f) :
    outOk B c l ((mOut.access (fromRowsR c o)).write (Elt F) f (k0_pay74 (redV B (bwd c o))) Finset.univ) := by
  intro i hi
  by_cases hh : chunkOf i = bwd c o
  · refine write_agree (mOut.access (fromRowsR c o)) f (outV B c) _ (read_fromRowsOut B c o) i ?_
    rw [set_fromRowsOut]; exact mem_rowsSet.mpr (congrArg Fin.val hh)
  · rw [View.write_of_not_mem]
    · exact hf i fun o' h' => (List.mem_cons.mp h').elim (fun h => h ▸ hh) (hi o')
    · rw [show (mOut.access (fromRowsR c o)).setOn Finset.univ = rowsSet (bwd c o) from set_fromRowsOut c o]
      exact fun hm => hh (chunkOf_of_mem hm)

theorem pay73_eq (v : Vec F S64x768 .bf16) : k0_pay73 v = v := funext fun i => congrArg v (Shape.reshapeEquiv_self _ i)

theorem publish_runs (acc : FVec F S64x768 .f32) (hr : roundAcc acc = redV B c)
    (ho : ∀ f, outOk B c hops ((mOut.access (ownRowsR c)).write (Elt F) f acc Finset.univ)) (K : PUnit → sProp 𝕄) :
    iprop((∃ f, holds c mRed f) ∗ (∃ f, ptAg c c f) ∗ (∃ f, holds c mOut f)
        ∗ (iprop(holds c mRed (roundAcc acc) ∗ ptAg c c (agBuf B) ∗ ∃ f, ⌜outOk B c hops f⌝ ∗ holds c mOut f) -∗ K ⟨⟩))
      ⊢ runs c (publish c acc) K := by
  unfold publish
  simp only [Prog.bind_lift]
  generalize roundAcc acc = r at hr ⊢
  iintro ⟨⟨%f0, Hr⟩, ⟨%f1, Ha⟩, ⟨%f2, Ho⟩, HK⟩
  iapply (wp_load_rect 𝒱₀ (c : Thread nD τ) none Set.univ (m := mRed) (r := allRed) (S := Finset.univ) (f := f0) (Finset.subset_univ _)) $$ Hr
  iintro Hr
  iapply (wp_store 𝒱₀ (c : Thread nD τ) none Set.univ (m := mRed) (r := allRed) (Mk := Finset.univ) (S := Finset.univ) (f := f0) (Finset.subset_univ _)) $$ Hr
  iintro Hr
  rw [write_red f0 r]
  iapply (wp_load_rect 𝒱₀ (c : Thread nD τ) none Set.univ (m := mRed) (r := allRed) (S := Finset.univ) (f := r) (Finset.subset_univ _)) $$ Hr
  iintro Hr
  rw [show (mRed.access allRed).read (Elt F) r = r from read_allRed mRed r]
  iapply (wp_load_rect 𝒱₀ (c : Thread nD τ) none Set.univ (m := mAg) (r := ownRowsR c) (S := rowsSet c) (f := f1) (by rw [set_ownRowsAg])) $$ Ha
  iintro Ha
  iapply (wp_store 𝒱₀ (c : Thread nD τ) none Set.univ (m := mAg) (r := ownRowsR c) (Mk := Finset.univ) (S := rowsSet c) (f := f1)
    (by rw [show (mAg.access (ownRowsR c)).setOn Finset.univ = rowsSet c from set_ownRowsAg c])) $$ Ha
  iintro Ha
  iapply (wp_load_rect 𝒱₀ (c : Thread nD τ) none Set.univ (m := mOut) (r := ownRowsR c) (S := Finset.univ) (f := f2) (Finset.subset_univ _)) $$ Ho
  iintro Ho
  iapply (wp_store 𝒱₀ (c : Thread nD τ) none Set.univ (m := mOut) (r := ownRowsR c) (Mk := Finset.univ) (S := Finset.univ) (f := f2) (Finset.subset_univ _)) $$ Ho
  iintro Ho
  ihave Ha := (Entails.of_eq (ag_written B c f1 (k0_pay73 (r)) ((pay73_eq r).trans hr))) $$ Ha
  rw [wp_ret]
  imodintro
  iapply HK
  isplitl [Hr]; · iexact Hr
  isplitl [Ha]; · iexact Ha
  iexists _
  isplitr; swap; · iexact Ho
  ipureintro; exact ho f2

/-! ## The gather -/

def agIn (o : Fin 15) : sProp 𝕄 :=
  iprop(ptRed c o (redV B c) ∗ (∃ f, ptAg (fwd c o) c f)
    ∗ dutyTok ER (cell c (2, o)) 0 (0 : Dev nD) ∗ reached ER (cell c (2, o)) 0
    ∗ dutyTok ER (cell (fwd c o) (3, o)) 0 (0 : Dev nD) ∗ reached ER (cell (fwd c o) (3, o)) 0)
def agInv (l : List (Fin 15)) : sProp 𝕄 := iprop(invs B K₀ ∗ owing c (tAg c l))

theorem ag_step (o : Fin 15) (l : List (Fin 15)) (K : PUnit → sProp 𝕄) :
    iprop(agInv B K₀ c (o :: l) ∗ agIn B c o ∗ (iprop(agInv B K₀ c l ∗ cred (tallyAt (cell c (2, o)) () N)) -∗ K ⟨⟩))
      ⊢ runs c (agStep c o) K := by
  unfold agInv agIn
  rw [← next_eq c o]
  show _ ⊢ runs c (.op (.enqueueDma mRed (.remote (Dev.tc (next c o)) (rowsM c) (.dma (semAt cc0_scratch11 o))) (.dma (semAt cc0_scratch12 o)) xRed (xRows c) ⟨⟨rfl, Or.inl rfl⟩, trivial⟩) .ret) K
  iintro ⟨⟨#HI, ⟨%W, HO⟩⟩, ⟨Hp, ⟨%g, Hs⟩, Ht0, Hr0, Ht1, Hr1⟩, HK⟩
  ihave #Hi0 := (invs_lane B K₀ c (2, o)) $$ HI
  ihave #Hi1 := (invs_lane B K₀ (next c o) (3, o)) $$ HI
  ihave Hp := (Entails.of_eq (show ptRed c o (redV B c)
    = (mRed.view.loc (c : Thread nD τ) ↦[mRed.view.set]{Transfers.shareTok fullShare 15 o} redV B c : sProp 𝕄) by rw [View.set_whole])) $$ Hp
  ihave Hs := (Entails.of_eq (show ((next c o : Thread nD τ).loc cc0_scratch8 ↦[rowsSet c]{fullShare} g : sProp 𝕄)
    = ((rowsM c).view.loc (next c o : Thread nD τ) ↦[(rowsM c).view.set]{fullShare} g) by rw [set_rowsM])) $$ Hs
  iapply (Rounds.wp_send_pointsTo 𝒱₀ ER (sched B) (c : Thread nD τ) none (c' := (next c o : Thread nD τ)) (src := mRed) (dst := rowsM c)
      (sS := osem (2, o)) (sem := osem (3, o)) (q := Transfers.shareTok fullShare 15 o) (fs := redV B c) (κ₁ := K₀ (cell c (2, o))) (κ₂ := K₀ (cell (next c o) (3, o)))
      (r₁ := 0) (r₂ := 0) (d₁ := (0 : Dev nD)) (d₂ := (0 : Dev nD)) (fd := g)
      (by rw [duties_lane]; exact Finset.mem_singleton_self _) (by rw [duties_lane]; exact Finset.mem_singleton_self _)
      () () N rfl (amount_lane B c 0 (2, o)) (amount_lane B (next c o) 0 (3, o)) (tAg c l)
      (show tAg c (o :: l) = tAg c l + tallyAt (cell (next c o) (3, o)) () N by rw [tAg_cons, next_eq]) (W := W)
      (by rw [payload_lane, View.set_whole]; exact .rfl)
      (by
        rw [payload_lane, set_rowsM]
        refine Entails.of_eq ?_
        show _ = ptAg (next c o) (bwd (next c o) o) (agBuf B)
        rw [next_eq, bwd_fwd]
        exact pointsTo_congr fun i hi => write_agree (rowsM c).view g (agBuf B) _ ((read_rowsM B c).trans (show redV B c = mRed.view.read (Elt F) (redV B c) from rfl)) i (by rw [set_rowsM]; exact hi)))
    $$ [Hp Hs HO Ht0 Hr0 Ht1 Hr1]
  · isplitr; · iexact Hi0
    isplitr; · iexact Hi1
    isplitl [Hp]; · iexact Hp
    isplitl [Hs]; · iexact Hs
    isplitl [HO]; · iexact HO
    isplitl [Ht0]; · iexact Ht0
    isplitl [Hr0]; · iexact Hr0
    isplitl [Ht1]; · iexact Ht1
    iexact Hr1
  iintro ⟨Hcr, HO⟩
  rw [wp_ret]
  imodintro
  iapply HK
  isplitr [Hcr]
  · isplitr; · iexact HI
    iexists W; iexact HO
  · iexact Hcr

/-! ## The last waits -/

def doneInv (l : List (Fin 15)) : sProp 𝕄 := iprop(invs B K₀ ∗ owing c (0 : CellTallies nD τ sig Unit))

theorem rsDone_step (o : Fin 15) (l : List (Fin 15)) (K : PUnit → sProp 𝕄) :
    iprop(doneInv B K₀ c (o :: l) ∗ waitIn c (0, o) ∗ (iprop(doneInv B K₀ c l ∗ waitOut B c (0, o)) -∗ K ⟨⟩)) ⊢ runs c (rsDone c o) K := by
  unfold rsDone doneInv waitIn waitOut
  iintro ⟨⟨#HI, HO⟩, ⟨Hc, Hat⟩, HK⟩
  iapply (lane_wait B K₀ c (0, o) 0
    (w := .waitDma2 (semAt cc0_scratch9 o) (slotM c) (chunkM c o) (xSlot c) (xChunk c o)) (fun _ => wpE_waitDma2_eq 𝒱₀ (c : Thread nD τ) none Set.univ _))
  isplitr; · iexact HI
  isplitl [Hc]; · iexact Hc
  isplitl [Hat]; · iexact Hat
  isplitl [HO]; · iexact HO
  isplitr; · rw [MayWait_zero]; iempintro
  iintro ⟨HO, Hat, Hp⟩
  iapply HK
  isplitl [HO]
  · isplitr; · iexact HI
    iexact HO
  isplitl [Hat]; · iexact Hat
  iexact Hp

theorem agDone_step (o : Fin 15) (l : List (Fin 15)) (K : PUnit → sProp 𝕄) :
    iprop(doneInv B K₀ c (o :: l) ∗ waitIn c (2, o) ∗ (iprop(doneInv B K₀ c l ∗ waitOut B c (2, o)) -∗ K ⟨⟩)) ⊢ runs c (agDone c o) K := by
  unfold agDone doneInv waitIn waitOut
  iintro ⟨⟨#HI, HO⟩, ⟨Hc, Hat⟩, HK⟩
  iapply (lane_wait B K₀ c (2, o) 0
    (w := .waitDma2 (semAt cc0_scratch11 o) (rowsM c) mRed (xRows c) xRed) (fun _ => wpE_waitDma2_eq 𝒱₀ (c : Thread nD τ) none Set.univ _))
  isplitr; · iexact HI
  isplitl [Hc]; · iexact Hc
  isplitl [Hat]; · iexact Hat
  isplitl [HO]; · iexact HO
  isplitr; · rw [MayWait_zero]; iempintro
  iintro ⟨HO, Hat, Hp⟩
  iapply HK
  isplitl [HO]
  · isplitr; · iexact HI
    iexact HO
  isplitl [Hat]; · iexact Hat
  iexact Hp

def collectInv (l : List (Fin 15)) : sProp 𝕄 :=
  iprop(doneInv B K₀ c l ∗ ∃ f, ⌜outOk B c l f⌝ ∗ holds c mOut f)

theorem collect_step (o : Fin 15) (l : List (Fin 15)) (K : PUnit → sProp 𝕄) :
    iprop(collectInv B K₀ c (o :: l) ∗ waitIn c (3, o) ∗ (iprop(collectInv B K₀ c l ∗ waitOut B c (3, o)) -∗ K ⟨⟩)) ⊢ runs c (collect c o) K := by
  unfold collect collectInv doneInv waitIn waitOut runs
  rw [wp_bind]
  iintro ⟨⟨⟨#HI, HO⟩, ⟨%f, %hf, Hout⟩⟩, ⟨Hc, Hat⟩, HK⟩
  iapply (lane_wait B K₀ c (3, o) 0
    (w := .waitDma2 (semAt cc0_scratch12 o) mRed (rowsM c) xRed (xRows c)) (fun _ => wpE_waitDma2_eq 𝒱₀ (c : Thread nD τ) none Set.univ _))
  isplitr; · iexact HI
  isplitl [Hc]; · iexact Hc
  isplitl [Hat]; · iexact Hat
  isplitl [HO]; · iexact HO
  isplitr; · rw [MayWait_zero]; iempintro
  iintro ⟨HO, Hat, Hp⟩
  simp only [Prog.bind_lift]
  ihave Hp := (Entails.of_eq (show lanePay B c (3, o) = ptAg c (bwd c o) (agBuf B) from rfl)) $$ Hp
  iapply (wp_load_rect 𝒱₀ (c : Thread nD τ) none Set.univ (m := mAg) (r := fromRowsR c o) (S := rowsSet (bwd c o)) (f := agBuf B) (by rw [set_fromRowsAg])) $$ Hp
  iintro Hp
  rw [read_fromRowsAg]
  iapply (wp_load_rect 𝒱₀ (c : Thread nD τ) none Set.univ (m := mOut) (r := fromRowsR c o) (S := Finset.univ) (f := f) (Finset.subset_univ _)) $$ Hout
  iintro Hout
  iapply (wp_store 𝒱₀ (c : Thread nD τ) none Set.univ (m := mOut) (r := fromRowsR c o) (Mk := Finset.univ) (S := Finset.univ) (f := f) (Finset.subset_univ _)) $$ Hout
  iintro Hout
  rw [wp_ret]
  imodintro
  iapply HK
  ihave Hp := (Entails.of_eq (show ptAg c (bwd c o) (agBuf B) = lanePay B c (3, o) from rfl)) $$ Hp
  isplitl [HO Hout]
  · isplitl [HO]
    · isplitr; · iexact HI
      iexact HO
    iexists _
    isplitr; swap; · iexact Hout
    ipureintro; exact outOk_write B c o l f hf
  isplitl [Hat]; · iexact Hat
  iexact Hp

end Cert.KernelIdeal.Ring
-- ==== Proof.Run.lean ====
module

public import proofs.«01_k».proof.Proof.Gather

@[expose] public section

noncomputable section

/-! # The whole body on one device

From the opened cells, the blocks and the scratch buffers, the body ends with every cell closed and the result in its window. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (B : Dev nD → Blocks F) (K₀ : GSem nD τ sig → ℕ) (c : Dev nD)

/-! ## Rearranging -/

theorem insert_sep {I : Type} [DecidableEq I] {s : Finset I} {i : I} (hi : i ∉ s) (Φ : I → sProp 𝕄) :
    bigSep (insert i s) Φ = iprop(Φ i ∗ bigSep s Φ) := BI.bigSep_insert hi

/-- Something of every device: the core's own and the one of each hop. -/
theorem by_fwd (Φ : Dev nD → sProp 𝕄) : bigSep Finset.univ Φ = iprop(Φ c ∗ bigSep Finset.univ fun o : Fin 15 => Φ (fwd c o)) := by
  rw [← all_fwd c, insert_sep (fun h => by obtain ⟨o, -, ho⟩ := Finset.mem_image.mp h; exact fwd_ne c o ho),
    bigSep_image_of_injOn (fun a _ b _ h => fwd_inj c a b h)]
theorem by_bwd (Φ : Dev nD → sProp 𝕄) : bigSep Finset.univ Φ = iprop(Φ c ∗ bigSep Finset.univ fun o : Fin 15 => Φ (bwd c o)) := by
  rw [← all_bwd c, insert_sep (fun h => by obtain ⟨o, -, ho⟩ := Finset.mem_image.mp h; exact bwd_ne c o ho),
    bigSep_image_of_injOn (fun a _ b _ h => bwd_inj c a b h)]

/-- Something of every transfer cell, family by family. -/
theorem by_family (Φ : Lane → sProp 𝕄) : bigSep Finset.univ Φ
    = iprop((bigSep Finset.univ fun o : Fin 15 => Φ (0, o)) ∗ (bigSep Finset.univ fun o : Fin 15 => Φ (1, o))
      ∗ (bigSep Finset.univ fun o : Fin 15 => Φ (2, o)) ∗ bigSep Finset.univ fun o : Fin 15 => Φ (3, o)) := by
  rw [bigSep_univ_prod, bigSep_univ_eq_bigSepL [0, 1, 2, 3] (by decide) (by decide)]
  rfl

theorem part_whole (f : S1024x768.Idx → Elt F .bf16) :
    ((c : Thread nD τ).loc cc0_scratch5 ↦{fullShare} f : sProp 𝕄) = bigSep Finset.univ fun j => ptPart c j f := by
  rw [← pointsTo_biUnion (ℓ := (c : Thread nD τ).loc cc0_scratch5) (q := fullShare) (f := f) Finset.univ rowsSet (fun a _ b _ h => rows_disjoint a b h), rows_cover]
theorem slots_whole (f : S16x64x768.Idx → Elt F .bf16) :
    ((c : Thread nD τ).loc cc0_scratch7 ↦{fullShare} f : sProp 𝕄) = bigSep Finset.univ fun j => ptSlot c j f := by
  rw [← pointsTo_biUnion (ℓ := (c : Thread nD τ).loc cc0_scratch7) (q := fullShare) (f := f) Finset.univ slotSet (fun a _ b _ h => slots_disjoint a b h), slots_cover]
theorem ag_whole (f : S1024x768.Idx → Elt F .bf16) :
    ((c : Thread nD τ).loc cc0_scratch8 ↦{fullShare} f : sProp 𝕄) = bigSep Finset.univ fun j => ptAg c j f := by
  rw [← pointsTo_biUnion (ℓ := (c : Thread nD τ).loc cc0_scratch8) (q := fullShare) (f := f) Finset.univ rowsSet (fun a _ b _ h => rows_disjoint a b h), rows_cover]

/-- Contents forgotten in each piece. -/
theorem some_contents {α : Type} {I : Type} [Fintype I] (Φ : I → α → sProp 𝕄) (f : α) :
    bigSep Finset.univ (fun j => Φ j f) ⊢ bigSep Finset.univ fun j => iprop(∃ g, Φ j g) :=
  bigSep_mono fun j _ => show Φ j f ⊢ iprop(∃ g, Φ j g) from by
    iintro H
    iexists f; iexact H

/-- What a device's units hand over, gathered by kind. -/
theorem pays_of : iprop((∃ f, (c : Thread nD τ).loc cc0_scratch7 ↦{fullShare} f) ∗ (∃ f, (c : Thread nD τ).loc cc0_scratch8 ↦{fullShare} f)
      ∗ bigSep Finset.univ (fun k : Lane => reached ER (cell c k) 0))
    ⊢ (bigSep Finset.univ (fun j : Dev nD => barPay j c) : sProp 𝕄) := by
  refine Entails.trans (Q := iprop(bigSep Finset.univ (fun j : Dev nD => iprop(∃ f, ptSlot c j f)) ∗ bigSep Finset.univ (fun j : Dev nD => iprop(∃ f, ptAg c j f))
      ∗ bigSep Finset.univ (fun _ : Dev nD => bigSep Finset.univ (fun k : Lane => reached ER (cell c k) 0)))) ?_ (Entails.of_eq ?_)
  · iintro ⟨⟨%f, Hs⟩, ⟨%g, Ha⟩, #Hr⟩
    isplitl [Hs]
    · iapply (some_contents (fun j => ptSlot c j) f)
      iapply (Entails.of_eq (slots_whole c f)); iexact Hs
    isplitl [Ha]
    · iapply (some_contents (fun j => ptAg c j) g)
      iapply (Entails.of_eq (ag_whole c g)); iexact Ha
    iapply (show (bigSep Finset.univ (fun k : Lane => reached ER (cell c k) 0) : sProp 𝕄)
      ⊢ bigSep Finset.univ (fun _ : Dev nD => bigSep Finset.univ (fun k : Lane => reached ER (cell c k) 0)) from bigSep_of_persistent Finset.univ _)
    iexact Hr
  · unfold barPay
    rw [bigSep_sep', bigSep_sep']

/-! ## The loops over all hops -/

theorem hops_runs (f : Fin 15 → P F PUnit) (I : List (Fin 15) → sProp 𝕄) (A Z : Fin 15 → sProp 𝕄)
    (step : ∀ a l (K : PUnit → sProp 𝕄), iprop(I (a :: l) ∗ A a ∗ (iprop(I l ∗ Z a) -∗ K ⟨⟩)) ⊢ runs c (f a) K) (K : PUnit → sProp 𝕄) :
    iprop(I hops ∗ bigSep Finset.univ A ∗ (iprop(I [] ∗ bigSep Finset.univ Z) -∗ K ⟨⟩)) ⊢ runs c (each f hops) K := by
  rw [univ_hops, univ_hops]
  exact each_runs c f I A Z step hops K

theorem tRs_nil (R : CellTallies nD τ sig Unit) : tRs c [] + R = R := zero_add R
theorem tBar_nil (R : CellTallies nD τ sig Unit) : tBar [] + R = R := zero_add R
theorem tAg_nil : tAg c [] = 0 := rfl

/-- The sixteen signals: every device's barrier cell gets its unit, with this device's slot and rows for it. -/
theorem signals_run (K : PUnit → sProp 𝕄) :
    iprop(invs B K₀ ∗ owing c (O₀ c) ∗ bigSep Finset.univ (fun j : Dev nD => dutyTok ER (barCell j) 0 c)
        ∗ (∃ f, (c : Thread nD τ).loc cc0_scratch7 ↦{fullShare} f) ∗ (∃ f, (c : Thread nD τ).loc cc0_scratch8 ↦{fullShare} f)
        ∗ bigSep Finset.univ (fun k : Lane => reached ER (cell c k) 0)
        ∗ (owing c (tRs c hops + tAg c hops) -∗ K ⟨⟩))
      ⊢ runs c (each (fun j => semSignalWord j barS 1#32) devs) K := by
  iintro ⟨#HI, HO, Ht, ⟨%f, Hs⟩, ⟨%g, Ha⟩, #Hr, HK⟩
  iapply (each_runs c (fun j => semSignalWord j barS 1#32) (fun l => iprop(invs B K₀ ∗ owing c (tBar l + (tRs c hops + tAg c hops))))
    (fun j => iprop(dutyTok ER (barCell j) 0 c ∗ barPay j c)) (fun _ => iprop(emp)) (fun j l K => signal_step B K₀ c _ j l K) devs K)
  isplitl [HO]
  · isplitr; · iexact HI
    iexact HO
  isplitr [HK]
  · iapply (Entails.of_eq ((bigSep_sep' _ _ _).symm.trans (univ_devs (F := F) (fun j => iprop(dutyTok ER (barCell j) 0 c ∗ barPay j c)))))
    isplitl [Ht]; · iexact Ht
    iapply (pays_of c)
    isplitl [Hs]; · iexists f; iexact Hs
    isplitl [Ha]; · iexists g; iexact Ha
    iexact Hr
  iintro ⟨⟨-, HO⟩, -⟩
  iapply HK
  rw [tBar_nil]
  iexact HO

/-! ## The barrier -/

theorem barrier_wait (K : PUnit → sProp 𝕄) :
    iprop(invs B K₀ ∗ levAts L lv ∗ cred (tallyAt (barCell c) () 16) ∗ atPos ER (barCell c) 0 ∅ 0 ∗ owing c (tRs c hops + tAg c hops)
        ∗ (iprop(owing c (tRs c hops + tAg c hops) ∗ atPos ER (barCell c) (0 + 1) ∅ 0 ∗ bigSep Finset.univ (barPay (F := F) c)) -∗ K ⟨⟩))
      ⊢ runs c (semWaitWord barS 16#32) K := by
  show _ ⊢ runs c (.op (.semWait barS 16) .ret) K
  iintro ⟨#HI, #HL, Hc, Hat, ⟨%W, HO⟩, HK⟩
  ihave #Hi := (invs_bar B K₀ c) $$ HI
  iapply (Rounds.wp_wait_rest_token 𝒱₀ ER (sched B) (c : Thread nD τ) none (κ := K₀ (barCell c))
      (fun K => wpE_semWait_eq 𝒱₀ (c : Thread nD τ) none Set.univ (sem := barS) (k := 16) K) (Set.mem_univ _) () (O := tRs c hops + tAg c hops) (W := W) (R := 0) (m := 0) (T := ∅)
      ((Nat.zero_add _).trans (expect_bar B c).symm)) $$ [Hc HO Hat]
  · isplitr; · iexact Hi
    isplitl [Hc]; · iexact Hc
    isplitl [HO]; · iexact HO
    isplitr; · iapply (mayWait_bar c); iexact HL
    iexact Hat
  iintro ⟨HO, Hat, -, Hp⟩
  ihave Hp := (Entails.of_eq (rest_bar B c)) $$ Hp
  rw [wp_ret]
  imodintro
  iapply HK
  isplitl [HO]; · iexists _; iexact HO
  isplitl [Hat]; · iexact Hat
  iexact Hp

/-- What the barrier brings: the device's own slot and rows back, and on every hop the receiver's slot and rows. -/
theorem pays_got : (bigSep Finset.univ (barPay c) : sProp 𝕄)
    ⊢ iprop((∃ f, ptSlot c c f) ∗ (∃ f, ptAg c c f)
      ∗ bigSep Finset.univ (fun o : Fin 15 => iprop(∃ f, ptSlot (fwd c o) c f)) ∗ bigSep Finset.univ (fun o : Fin 15 => iprop(∃ f, ptAg (fwd c o) c f))
      ∗ bigSep Finset.univ (fun o : Fin 15 => reached ER (cell (fwd c o) (1, o)) 0) ∗ bigSep Finset.univ (fun o : Fin 15 => reached ER (cell (fwd c o) (3, o)) 0)) := by
  have h (d : Dev nD) (k : Lane) : bigSep Finset.univ (fun k : Lane => (reached ER (cell d k) 0 : sProp 𝕄)) ⊢ reached ER (cell d k) 0 := bigSep_elim (Finset.mem_univ k)
  refine (Entails.of_eq (show (bigSep Finset.univ (barPay c) : sProp 𝕄)
    = iprop(barPay c c ∗ (bigSep Finset.univ fun o : Fin 15 => iprop(∃ f, ptSlot (fwd c o) c f)) ∗ (bigSep Finset.univ fun o : Fin 15 => iprop(∃ f, ptAg (fwd c o) c f))
      ∗ bigSep Finset.univ fun o : Fin 15 => bigSep Finset.univ (fun k : Lane => reached ER (cell (fwd c o) k) 0)) from by
      rw [by_fwd c]; unfold barPay; rw [bigSep_sep', bigSep_sep'])).trans ?_
  unfold barPay
  iintro ⟨⟨Hs, Ha, -⟩, Hss, Has, #Hr⟩
  isplitl [Hs]; · iexact Hs
  isplitl [Ha]; · iexact Ha
  isplitl [Hss]; · iexact Hss
  isplitl [Has]; · iexact Has
  isplitr
  · iapply (show (bigSep Finset.univ fun o : Fin 15 => bigSep Finset.univ (fun k : Lane => (reached ER (cell (fwd c o) k) 0 : sProp 𝕄)))
      ⊢ bigSep Finset.univ (fun o : Fin 15 => reached ER (cell (fwd c o) (1, o)) 0) from bigSep_mono fun o _ => h (fwd c o) (1, o))
    iexact Hr
  · iapply (show (bigSep Finset.univ fun o : Fin 15 => bigSep Finset.univ (fun k : Lane => (reached ER (cell (fwd c o) k) 0 : sProp 𝕄)))
      ⊢ bigSep Finset.univ (fun o : Fin 15 => reached ER (cell (fwd c o) (3, o)) 0) from bigSep_mono fun o _ => h (fwd c o) (3, o))
    iexact Hr

/-! ## Attention over all heads -/

theorem mem_heads : ∀ h : Fin 2 × Fin 8, h ∈ heads := by decide

theorem heads_run (K : PUnit → sProp 𝕄) :
    iprop(holds c mQ (qV B c) ∗ holds c mKb (kV B c) ∗ holds c mVb (vV B c) ∗ (∃ f, holds c mCtx f)
        ∗ (iprop(holds c mQ (qV B c) ∗ holds c mKb (kV B c) ∗ holds c mVb (vV B c) ∗ holds c mCtx (ctxV B c)) -∗ K ⟨⟩))
      ⊢ runs c (each headStep heads) K := by
  iintro ⟨Hq, Hk, Hv, ⟨%f, Hc⟩, HK⟩
  iapply (each_runs c headStep (headInv B c) (fun _ => iprop(emp)) (fun _ => iprop(emp)) (fun a l K => head_step B c a l K) heads K)
  unfold headInv
  isplitl [Hq Hk Hv Hc]
  · isplitl [Hq]; · iexact Hq
    isplitl [Hk]; · iexact Hk
    isplitl [Hv]; · iexact Hv
    iexists f
    isplitr; · ipureintro; exact fun i hi => absurd (mem_heads _) hi
    iexact Hc
  isplitr
  · iapply (show (iprop(emp) : sProp 𝕄) ⊢ bigSepL heads (fun _ => iprop(emp)) from by
      rw [← bigSep_univ_eq_bigSepL heads (by decide) (by decide)]; exact bigSep_of_persistent Finset.univ _)
    iempintro
  iintro ⟨⟨Hq, Hk, Hv, ⟨%g, %hg, Hc⟩⟩, -⟩
  obtain rfl : g = ctxV B c := funext fun i => hg i (List.not_mem_nil)
  iapply HK
  isplitl [Hq]; · iexact Hq
  isplitl [Hk]; · iexact Hk
  isplitl [Hv]; · iexact Hv
  iexact Hc

end Cert.KernelIdeal.Ring
-- ==== Proof.Whole.lean ====
module

public import proofs.«01_k».proof.Proof.Run

@[expose] public section

noncomputable section

/-! # The body from start to end

`body_run`: with its cells open, its blocks and its scratch buffers, a device's body ends with the result in its window,
its scratch buffers whole again and every one of its cells back at zero. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (B : Dev nD → Blocks F) (K₀ : GSem nD τ sig → ℕ) (c : Dev nD)

/-- Over all hops. -/
abbrev overHops (Φ : Fin 15 → sProp 𝕄) : sProp 𝕄 := bigSep Finset.univ Φ

theorem wait_in (x : Fin 4) : iprop(overHops (F := F) (fun o => cred (tallyAt (cell c (x, o)) () N)) ∗ overHops (fun o => atPos ER (cell c (x, o)) 0 ∅ 0))
    ⊢ overHops (fun o => waitIn c (x, o)) := by
  unfold waitIn overHops; rw [bigSep_sep']
theorem wait_out (x : Fin 4) : overHops (fun o => waitOut B c (x, o))
    ⊢ iprop(overHops (fun o => atPos ER (cell c (x, o)) (0 + 1) ∅ 0) ∗ overHops (fun o => lanePay B c (x, o))) := by
  unfold waitOut overHops; rw [bigSep_sep']

/-- What all sends of the products take, by kind. -/
theorem rs_in : iprop(overHops (fun o => iprop(∃ f, ptPart c (fwd c o) f)) ∗ overHops (fun o => iprop(∃ f, ptSlot (fwd c o) c f))
      ∗ overHops (fun o => dutyTok ER (cell c (0, o)) 0 (0 : Dev nD)) ∗ overHops (fun o => reached ER (cell c (0, o)) 0)
      ∗ overHops (fun o => dutyTok ER (cell (fwd c o) (1, o)) 0 (0 : Dev nD)) ∗ overHops (fun o => reached ER (cell (fwd c o) (1, o)) 0))
    ⊢ (overHops (fun o => rsIn c o) : sProp 𝕄) := by
  unfold rsIn overHops; rw [bigSep_sep', bigSep_sep', bigSep_sep', bigSep_sep', bigSep_sep']
/-- What all sends of the sum take, by kind. -/
theorem ag_in : iprop(overHops (fun o => ptRed c o (redV B c)) ∗ overHops (fun o => iprop(∃ f, ptAg (fwd c o) c f))
      ∗ overHops (fun o => dutyTok ER (cell c (2, o)) 0 (0 : Dev nD)) ∗ overHops (fun o => reached ER (cell c (2, o)) 0)
      ∗ overHops (fun o => dutyTok ER (cell (fwd c o) (3, o)) 0 (0 : Dev nD)) ∗ overHops (fun o => reached ER (cell (fwd c o) (3, o)) 0))
    ⊢ overHops (fun o => agIn B c o) := by
  unfold agIn overHops; rw [bigSep_sep', bigSep_sep', bigSep_sep', bigSep_sep', bigSep_sep']

/-- The chunks of the products apart: the device's own and one of each hop. -/
theorem part_apart : iprop(∃ f, (c : Thread nD τ).loc cc0_scratch5 ↦{fullShare} f)
    ⊢ (iprop((∃ f, ptPart c c f) ∗ overHops (fun o => iprop(∃ f, ptPart c (fwd c o) f))) : sProp 𝕄) := by
  iintro ⟨%f, H⟩
  ihave H := (Entails.of_eq ((part_whole c f).trans (by_fwd c (fun j => ptPart c j f)))) $$ H
  icases H with ⟨H0, H⟩
  isplitl [H0]; · iexists f; iexact H0
  iapply (some_contents (fun o => ptPart c (fwd c o)) f); iexact H

/-- Every transfer cell closed. -/
theorem lanes_close : iprop(invs B K₀ ∗ bigSep Finset.univ (fun k : Lane => atPos ER (cell c k) (0 + 1) ∅ 0))
    ⊢ (|={Set.univ}=> bigSep Finset.univ (fun k : Lane => semVal (cell c k) 0) : sProp 𝕄) := by
  refine BIBase.Entails.trans (Q := bigSep Finset.univ (fun k : Lane => iprop(|={Set.univ}=> semVal (cell c k) 0))) ?_ (bigSep_fupd _ _)
  refine BIBase.Entails.trans (Q := bigSep Finset.univ (fun k : Lane => iprop(invs B K₀ ∗ atPos ER (cell c k) (0 + 1) ∅ 0))) ?_ (bigSep_mono fun k _ => ?_)
  · rw [bigSep_sep']
    iintro ⟨#HI, H⟩
    isplitr
    · iapply (show invs B K₀ ⊢ bigSep Finset.univ (fun _ : Lane => invs B K₀) from bigSep_of_persistent Finset.univ _); iexact HI
    iexact H
  · show iprop(invs B K₀ ∗ atPos ER (cell c k) (0 + 1) ∅ 0) ⊢ iprop(|={Set.univ}=> semVal (cell c k) 0)
    iintro ⟨#HI, H⟩
    ihave #Hc := (invs_lane B K₀ c k) $$ HI
    iapply (close B (K₀ (cell c k)) (cell c k))
    isplitr; · iexact Hc
    iexact H

/-- The device's cells at zero. -/
def zeros : sProp 𝕄 := iprop(semVal (barCell c) 0 ∗ bigSep Finset.univ (fun k : Lane => semVal (cell c k) 0))

theorem all_close : iprop(invs B K₀ ∗ atPos ER (barCell c) (0 + 1) ∅ 0
      ∗ overHops (fun o => atPos ER (cell c (0, o)) (0 + 1) ∅ 0) ∗ overHops (fun o => atPos ER (cell c (1, o)) (0 + 1) ∅ 0)
      ∗ overHops (fun o => atPos ER (cell c (2, o)) (0 + 1) ∅ 0) ∗ overHops (fun o => atPos ER (cell c (3, o)) (0 + 1) ∅ 0))
    ⊢ (|={Set.univ}=> zeros c : sProp 𝕄) := by
  rw [show iprop(overHops (F := F) (fun o => atPos ER (cell c (0, o)) (0 + 1) ∅ 0) ∗ overHops (fun o => atPos ER (cell c (1, o)) (0 + 1) ∅ 0)
      ∗ overHops (fun o => atPos ER (cell c (2, o)) (0 + 1) ∅ 0) ∗ overHops (fun o => atPos ER (cell c (3, o)) (0 + 1) ∅ 0))
    = bigSep Finset.univ (fun k : Lane => atPos ER (cell c k) (0 + 1) ∅ 0) from (by_family (fun k : Lane => (atPos ER (cell c k) (0 + 1) ∅ 0 : sProp 𝕄))).symm]
  unfold zeros
  iintro ⟨#HI, Hb, Hl⟩
  ihave #Hc := (invs_bar B K₀ c) $$ HI
  imod (close B (K₀ (barCell c)) (barCell c)) $$ [Hb] with Hb
  · isplitr; · iexact Hc
    iexact Hb
  imod (lanes_close B K₀ c) $$ [Hl] with Hl
  · isplitr; · iexact HI
    iexact Hl
  imodintro
  isplitl [Hb]; · iexact Hb
  iexact Hl

/-- The buffers that moved, whole again. -/
theorem all_join : iprop(ptPart c c (partBuf B c) ∗ ptSlot c c (slotBuf B c) ∗ ptAg c c (agBuf B)
      ∗ ((c : Thread nD τ).loc cc0_scratch6 ↦{Transfers.shareDrop fullShare 15} redV B c)
      ∗ overHops (fun o => lanePay B c (0, o)) ∗ overHops (fun o => lanePay B c (1, o))
      ∗ overHops (fun o => lanePay B c (2, o)) ∗ overHops (fun o => lanePay B c (3, o)))
    ⊢ (iprop((∃ f, (c : Thread nD τ).loc cc0_scratch5 ↦{fullShare} f) ∗ (∃ f, (c : Thread nD τ).loc cc0_scratch6 ↦{fullShare} f)
      ∗ (∃ f, (c : Thread nD τ).loc cc0_scratch7 ↦{fullShare} f) ∗ (∃ f, (c : Thread nD τ).loc cc0_scratch8 ↦{fullShare} f)) : sProp 𝕄) := by
  iintro ⟨Hp, Hs, Ha, Hr, H0, H1, H2, H3⟩
  isplitl [Hp H0]
  · iexists (partBuf B c)
    iapply (Entails.of_eq ((part_whole c (partBuf B c)).trans (by_fwd c (fun j => ptPart c j (partBuf B c)))).symm)
    isplitl [Hp]; · iexact Hp
    iapply (Entails.of_eq (show overHops (fun o => lanePay B c (0, o)) = overHops (fun o => ptPart c (fwd c o) (partBuf B c)) from rfl)); iexact H0
  isplitl [Hr H2]
  · iexists (redV B c)
    iapply (Transfers.pointsTo_toks_join (ℓ := (c : Thread nD τ).loc cc0_scratch6) (S := Finset.univ) (f := redV B c) fullShare 15)
    isplitl [Hr]; · iexact Hr
    iapply (Entails.of_eq (show overHops (fun o => lanePay B c (2, o)) = overHops (fun o => ptRed c o (redV B c)) from rfl)); iexact H2
  isplitl [Hs H1]
  · iexists (slotBuf B c)
    iapply (Entails.of_eq ((slots_whole c (slotBuf B c)).trans (by_bwd c (fun j => ptSlot c j (slotBuf B c)))).symm)
    isplitl [Hs]; · iexact Hs
    iapply (Entails.of_eq (show overHops (fun o => lanePay B c (1, o)) = overHops (fun o => ptSlot c (bwd c o) (slotBuf B c)) from rfl)); iexact H1
  · iexists (agBuf B)
    iapply (Entails.of_eq ((ag_whole c (agBuf B)).trans (by_bwd c (fun j => ptAg c j (agBuf B)))).symm)
    isplitl [Ha]; · iexact Ha
    iapply (Entails.of_eq (show overHops (fun o => lanePay B c (3, o)) = overHops (fun o => ptAg c (bwd c o) (agBuf B)) from rfl)); iexact H3

/-- The scratch buffers at any contents. -/
def scratch : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f)
    ∗ (∃ f, (c : Thread nD τ).loc cc0_scratch4 ↦{fullShare} f) ∗ (∃ f, (c : Thread nD τ).loc cc0_scratch5 ↦{fullShare} f)
    ∗ (∃ f, (c : Thread nD τ).loc cc0_scratch6 ↦{fullShare} f) ∗ (∃ f, (c : Thread nD τ).loc cc0_scratch7 ↦{fullShare} f)
    ∗ (∃ f, (c : Thread nD τ).loc cc0_scratch8 ↦{fullShare} f))

/-- The sum of the received products. -/
theorem red_run (a : Vec F S1x64x768 .bf16) (ha : a = slotVec B c c) (K : FVec F S64x768 .f32 → sProp 𝕄) :
    iprop(redInv B K₀ c hops ∗ overHops (fun o => waitIn c (1, o))
        ∗ (∀ acc, ⌜acc = accV B c⌝ -∗ (iprop(redInv B K₀ c [] ∗ overHops (fun o => waitOut B c (1, o))) -∗ K acc)))
      ⊢ runs c (thread (redStep c) (k0_pay61 a) hops) K := by
  subst ha
  unfold overHops
  rw [univ_hops, univ_hops]
  refine BIBase.Entails.trans ?_ (thread_runs c (redStep c) (fun acc o => addSlot acc (slotVec B c (bwd c o))) (redInv B K₀ c) (fun o => waitIn c (1, o)) (fun o => waitOut B c (1, o))
    (fun b o l K => red_step B K₀ c b o l K) hops (k0_pay61 (slotVec B c c)) K)
  generalize h : hops.foldl (fun acc o => addSlot acc (slotVec B c (bwd c o))) (k0_pay61 (slotVec B c c)) = r
  iintro ⟨HI, HA, HK⟩
  isplitl [HI]; · iexact HI
  isplitl [HA]; · iexact HA
  iapply HK
  ipureintro; exact h.symm

set_option maxHeartbeats 400000 in
theorem body_run (K : PUnit → sProp 𝕄) :
    iprop(opened B c ∗ levAts L lv ∗ owing c (O₀ c) ∗ inputs B c ∗ (∃ f, holds c mOut f) ∗ scratch c
        ∗ (iprop(zeros c ∗ owing c (0 : CellTallies nD τ sig Unit) ∗ inputs B c ∗ holds c mOut (outV B c) ∗ scratch c) -∗ K ⟨⟩))
      ⊢ runs c (bodyOn c) K := by
  refine BIBase.Entails.trans ?_ (wp_fupd frame (wpE (defs₀ (F := F)) 𝒱₀ (c : Thread nD τ) none) Set.univ _ K)
  unfold bodyOn opened toks creds scratch
  simp only [Prog.bind_lift, wp_bind]
  rw [bigSep_sep', by_family (fun k => atPos ER (cell c k) 0 ∅ 0)]
  iintro ⟨⟨%K₀, #HI, Hb, ⟨⟨A0, A1, A2, A3⟩, #HR⟩, ⟨Tb, T0, T1, T2, T3⟩, ⟨Cb, C1, C3⟩⟩, #HL, HO, Hin, Hout, ⟨S0, S1, S2, S3, S4, S5, S6, S7, S8⟩, HK⟩
  ihave HR' := (Entails.of_eq (by_family (fun k => reached ER (cell c k) 0))) $$ HR
  icases HR' with ⟨#R0, -, #R2, -⟩
  -- the signals
  iapply (signals_run B K₀ c)
  isplitr; · iexact HI
  isplitl [HO]; · iexact HO
  isplitl [Tb]; · iexact Tb
  isplitl [S7]; · iexact S7
  isplitl [S8]; · iexact S8
  isplitr; · iexact HR
  iintro HO
  -- the blocks
  iapply (prologue_runs B c)
  isplitl [Hin]; · iexact Hin
  isplitl [S0]; · iexact S0
  isplitl [S1]; · iexact S1
  isplitl [S2]; · iexact S2
  isplitl [S3]; · iexact S3
  iintro ⟨Hin, Hx, Hk, Hv, Hq⟩
  -- attention
  iapply (heads_run B c)
  isplitl [Hq]; · iexact Hq
  isplitl [Hk]; · iexact Hk
  isplitl [Hv]; · iexact Hv
  isplitl [S4]; · iexact S4
  iintro ⟨Hq, Hk, Hv, Hc⟩
  -- the barrier
  iapply (barrier_wait B K₀ c)
  isplitr; · iexact HI
  isplitr; · iexact HL
  isplitl [Cb]; · iexact Cb
  isplitl [Hb]; · iexact Hb
  isplitl [HO]; · iexact HO
  iintro ⟨HO, Hb, Hp⟩
  ihave Hp := (pays_got c) $$ Hp
  icases Hp with ⟨Hs, Ha, Hss, Has, #R1, #R3⟩
  ihave S5 := (part_apart c) $$ S5
  icases S5 with ⟨Hpc, Hps⟩
  -- the own product
  unfold inputs
  icases Hin with ⟨Wx, Wq, Wk, Wv, Ww⟩
  iapply (own_runs B c)
  isplitl [Hc]; · iexact Hc
  isplitl [Ww]; · iexact Ww
  isplitl [Hpc]; · iexact Hpc
  isplitl [Hs]; · iexact Hs
  iintro ⟨Hc, Ww, Hpc, Hs⟩
  -- the sends of the products
  iapply (hops_runs c (rsStep c) (rsInv B K₀ c (tAg c hops)) (fun o => rsIn c o) (fun o => cred (tallyAt (cell c (0, o)) () N))
    (fun a l K => rs_step B K₀ c (tAg c hops) a l K))
  unfold rsInv
  isplitl [Hc Ww HO]
  · isplitr; · iexact HI
    isplitl [Hc]; · iexact Hc
    isplitl [Ww]; · iexact Ww
    iexact HO
  isplitl [Hps Hss T0 T1]
  · iapply (rs_in c)
    isplitl [Hps]; · iexact Hps
    isplitl [Hss]; · iexact Hss
    isplitl [T0]; · iexact T0
    isplitr; · iexact R0
    isplitl [T1]; · iexact T1
    iexact R1
  iintro ⟨⟨-, Hc, Ww, HO⟩, C0⟩
  -- the sum
  iapply (wp_load_rect 𝒱₀ (c : Thread nD τ) none Set.univ (m := mSlots) (r := ownSlotR c) (S := slotSet c) (f := slotBuf B c) (by rw [set_ownSlot])) $$ Hs
  iintro Hs
  simp only [wp_bind]
  iapply (red_run B K₀ c _ (read_ownSlot B c))
  unfold redInv
  isplitl [HO]
  · isplitr; · iexact HI
    isplitr; · iexact HL
    iapply (Entails.of_eq (congrArg (fun O => (owing c O : sProp 𝕄)) (tRs_nil c (tAg c hops)))); iexact HO
  isplitl [C1 A1]
  · iapply (wait_in c 1)
    isplitl [C1]; · iexact C1
    iexact A1
  iintro %acc %hacc ⟨⟨-, -, HO⟩, P1⟩
  -- publishing
  iapply (publish_runs B c acc (congrArg roundAcc hacc) (fun f => by rw [hacc]; exact outOk_own B c f))
  isplitl [S6]; · iexact S6
  isplitl [Ha]; · iexact Ha
  isplitl [Hout]; · iexact Hout
  iintro ⟨Hr, Ha, ⟨%f, %hf, Hout⟩⟩
  rw [show roundAcc acc = redV B c from congrArg roundAcc hacc]
  ihave Hr := (Transfers.pointsTo_toks_split (ℓ := (c : Thread nD τ).loc cc0_scratch6) (S := Finset.univ) (f := redV B c) fullShare 15) $$ Hr
  icases Hr with ⟨Hr, Hrs⟩
  -- the sends of the sum
  iapply (hops_runs c (agStep c) (agInv B K₀ c) (fun o => agIn B c o) (fun o => cred (tallyAt (cell c (2, o)) () N))
    (fun a l K => ag_step B K₀ c a l K))
  unfold agInv
  isplitl [HO]
  · isplitr; · iexact HI
    iexact HO
  isplitl [Hrs Has T2 T3]
  · iapply (ag_in B c)
    isplitl [Hrs]; · iexact Hrs
    isplitl [Has]; · iexact Has
    isplitl [T2]; · iexact T2
    isplitr; · iexact R2
    isplitl [T3]; · iexact T3
    iexact R3
  iintro ⟨⟨-, HO⟩, C2⟩
  -- the last waits
  iapply (hops_runs c (rsDone c) (doneInv B K₀ c) (fun o => waitIn c (0, o)) (fun o => waitOut B c (0, o)) (fun a l K => rsDone_step B K₀ c a l K))
  unfold doneInv
  isplitl [HO]
  · isplitr; · iexact HI
    iapply (Entails.of_eq (congrArg (fun O => (owing c O : sProp 𝕄)) (tAg_nil c))); iexact HO
  isplitl [C0 A0]
  · iapply (wait_in c 0)
    isplitl [C0]; · iexact C0
    iexact A0
  iintro ⟨⟨-, HO⟩, P0⟩
  iapply (hops_runs c (collect c) (collectInv B K₀ c) (fun o => waitIn c (3, o)) (fun o => waitOut B c (3, o)) (fun a l K => collect_step B K₀ c a l K))
  unfold collectInv doneInv
  isplitl [HO Hout]
  · isplitl [HO]
    · isplitr; · iexact HI
      iexact HO
    iexists f
    isplitr; · ipureintro; exact hf
    iexact Hout
  isplitl [C3 A3]
  · iapply (wait_in c 3)
    isplitl [C3]; · iexact C3
    iexact A3
  iintro ⟨⟨⟨-, HO⟩, ⟨%g, %hg, Hout⟩⟩, P3⟩
  obtain rfl : g = outV B c := funext fun i => hg i fun o h => absurd h (List.not_mem_nil)
  iapply (hops_runs c (agDone c) (doneInv B K₀ c) (fun o => waitIn c (2, o)) (fun o => waitOut B c (2, o)) (fun a l K => agDone_step B K₀ c a l K))
  unfold doneInv
  isplitl [HO]
  · isplitr; · iexact HI
    iexact HO
  isplitl [C2 A2]
  · iapply (wait_in c 2)
    isplitl [C2]; · iexact C2
    iexact A2
  iintro ⟨⟨-, HO⟩, P2⟩
  -- closing
  ihave P0 := (wait_out B c 0) $$ P0
  ihave P1 := (wait_out B c 1) $$ P1
  ihave P2 := (wait_out B c 2) $$ P2
  ihave P3 := (wait_out B c 3) $$ P3
  icases P0 with ⟨A0, P0⟩
  icases P1 with ⟨A1, P1⟩
  icases P2 with ⟨A2, P2⟩
  icases P3 with ⟨A3, P3⟩
  imod (all_close B K₀ c) $$ [Hb A0 A1 A2 A3] with Hz
  · isplitr; · iexact HI
    isplitl [Hb]; · iexact Hb
    isplitl [A0]; · iexact A0
    isplitl [A1]; · iexact A1
    isplitl [A2]; · iexact A2
    iexact A3
  ihave HJ := (all_join B c) $$ [Hpc Hs Ha Hr P0 P1 P2 P3]
  · isplitl [Hpc]; · iexact Hpc
    isplitl [Hs]; · iexact Hs
    isplitl [Ha]; · iexact Ha
    isplitl [Hr]; · iexact Hr
    isplitl [P0]; · iexact P0
    isplitl [P1]; · iexact P1
    isplitl [P2]; · iexact P2
    iexact P3
  icases HJ with ⟨S5, S6, S7, S8⟩
  imodintro
  iapply HK
  isplitl [Hz]; · iexact Hz
  isplitl [HO]; · iexact HO
  isplitl [Wx Wq Wk Wv Ww]
  · isplitl [Wx]; · iexact Wx
    isplitl [Wq]; · iexact Wq
    isplitl [Wk]; · iexact Wk
    isplitl [Wv]; · iexact Wv
    iexact Ww
  isplitl [Hout]; · iexact Hout
  isplitl [Hx]; · iexists _; iexact Hx
  isplitl [Hk]; · iexists _; iexact Hk
  isplitl [Hv]; · iexists _; iexact Hv
  isplitl [Hq]; · iexists _; iexact Hq
  isplitl [Hc]; · iexists _; iexact Hc
  isplitl [S5]; · iexact S5
  isplitl [S6]; · iexact S6
  isplitl [S7]; · iexact S7
  iexact S8

end Cert.KernelIdeal.Ring
-- ==== Proof.Region.lean ====
module

public import proofs.«01_k».proof.Proof.Whole
public import proofs.«01_k».proof.Proof.Gen.KernelIdeal.Regions

@[expose] public section

noncomputable section

/-! # The kernel call as one segment of the program

The windows' arrays at the call, what the call leaves in the result's array, and the record the launch takes. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ UU ℕ

variable (m : (ℓ : Loc nD τ sig) → Buf (Elt F) ℓ)

/-- What device `c`'s five blocks hold once the host has reshaped and sliced. -/
def blocks (c : Dev nD) : Blocks F where
  x := ((cfg0.win 0).blk t0_0).view.read (Elt F) (V1 m c main_v5)
  wq := ((cfg0.win 1).blk t0_0).view.read (Elt F) (V1 m c main_v12)
  k := ((cfg0.win 2).blk t0_0).view.read (Elt F) (V1 m c main_v6)
  v := ((cfg0.win 3).blk t0_0).view.read (Elt F) (V1 m c main_v7)
  wo := ((cfg0.win 4).blk t0_0).view.read (Elt F) (V1 m c main_v17)

/-- The call's state at its start and at its end. -/
def atStart (c : Dev nD) : sProp 𝕄 := iprop((opened (blocks m) c ∗ levAts L lv) ∗ scratch c ∗ ∃ r, prngReg c r)
def atEnd (c : Dev nD) : sProp 𝕄 := iprop(zeros c ∗ scratch c ∗ ∃ r, prngReg c r)

def stateAt (c : Dev nD) (n : ℕ) : sProp 𝕄 := if n = 0 then atStart m c else atEnd c
def owedAt (c : Dev nD) (n : ℕ) : CellTallies nD τ sig Unit := if n = 0 then O₀ c else 0
theorem stateAt_zero (c : Dev nD) : stateAt m c 0 = atStart m c := if_pos rfl
theorem stateAt_succ (c : Dev nD) (n : ℕ) : stateAt m c (n + 1) = atEnd c := if_neg (Nat.succ_ne_zero n)
theorem owedAt_zero (c : Dev nD) : owedAt c 0 = O₀ c := if_pos rfl
theorem owedAt_succ (c : Dev nD) (n : ℕ) : owedAt c (n + 1) = 0 := if_neg (Nat.succ_ne_zero n)

/-- The call's data: every device owes all of its units at the start and none at the end. -/
def dat (c : Dev nD) : Dat τ (Elt F) Unit ℕ UU ℕ cfg0 c where
  A w := V1 m c (Proc.devRef .tc (Pipeline.arrRef spec0 w))
  after w _ := match w with
    | ⟨0, _⟩ => (blocks m c).x
    | ⟨1, _⟩ => (blocks m c).wq
    | ⟨2, _⟩ => (blocks m c).k
    | ⟨3, _⟩ => (blocks m c).v
    | ⟨4, _⟩ => (blocks m c).wo
    | ⟨5, _⟩ => outV (blocks m) c
  Φ t := stateAt m c t.val
  q _ := fullShare
  owed t := owedAt c t.val

def pdats : (p : Fin 1) → (c : Dev nD) → Dat τ (Elt F) Unit ℕ UU ℕ (Pipeline.pin (pcfgs (F := F)) adm p) c
  | 0 => dat m

theorem owed_zero (c : Dev nD) : (dat m c).owed 0 = O₀ c := owedAt_zero c
theorem owed_first (c : Dev nD) : (dat m c).owed t0_0.castSucc = O₀ c := owedAt_zero c
theorem owed_succ (c : Dev nD) : (dat m c).owed t0_0.succ = 0 := owedAt_succ c 0
theorem owed_last (c : Dev nD) : (dat m c).owed (Fin.last cfg0.N) = 0 := by
  show owedAt c (Fin.last grid0.N).val = 0
  rw [Fin.val_last, N_0]; exact owedAt_succ c 0
theorem state_zero (c : Dev nD) : (dat m c).Φ 0 = atStart m c := stateAt_zero m c
theorem state_first (c : Dev nD) : (dat m c).Φ t0_0.castSucc = atStart m c := stateAt_zero m c
theorem state_succ (c : Dev nD) : (dat m c).Φ t0_0.succ = atEnd c := stateAt_succ m c 0
theorem state_last (c : Dev nD) : (dat m c).Φ (Fin.last cfg0.N) = atEnd c := by
  show stateAt m c (Fin.last grid0.N).val = _
  rw [Fin.val_last, N_0]; exact stateAt_succ m c 0

theorem owes_in (c : Dev nD) (t : Fin (cfg0.N + 1)) (O : CellTallies nD τ sig Unit) (h : (dat m c).owed t = O) :
    owing c O ⊢ ((dat m c).owesAt () t : sProp 𝕄) := by
  unfold Dat.owesAt Pipeline.owesWithin Dat.bound
  rw [h]
  iintro ⟨%W, HO⟩
  iexists W
  isplitr; · ipureintro; exact fun _ _ => Or.inl trivial
  iexact HO
theorem owes_out (c : Dev nD) (t : Fin (cfg0.N + 1)) (O : CellTallies nD τ sig Unit) (h : (dat m c).owed t = O) :
    ((dat m c).owesAt () t : sProp 𝕄) ⊢ owing c O := by
  unfold Dat.owesAt Pipeline.owesWithin
  rw [h]
  iintro ⟨%W, -, HO⟩
  iexists W; iexact HO

theorem before_0 (c : Dev nD) (d) : (dat m c).before 0 t0_0 d = (blocks m c).x := by
  unfold Dat.before; rw [if_pos (fetch0_0 t0_0)]; rfl
theorem before_1 (c : Dev nD) (d) : (dat m c).before 1 t0_0 d = (blocks m c).wq := by
  unfold Dat.before; rw [if_pos (fetch0_1 t0_0)]; rfl
theorem before_2 (c : Dev nD) (d) : (dat m c).before 2 t0_0 d = (blocks m c).k := by
  unfold Dat.before; rw [if_pos (fetch0_2 t0_0)]; rfl
theorem before_3 (c : Dev nD) (d) : (dat m c).before 3 t0_0 d = (blocks m c).v := by
  unfold Dat.before; rw [if_pos (fetch0_3 t0_0)]; rfl
theorem before_4 (c : Dev nD) (d) : (dat m c).before 4 t0_0 d = (blocks m c).wo := by
  unfold Dat.before; rw [if_pos (fetch0_4 t0_0)]; rfl

theorem owns_held (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The body meets its obligation. -/
theorem body_obligation (c : Dev nD) : BodyObligation (dat (F := F) m c) (defs₀ (F := F)) 𝒱₀ () Set.univ := fun t => by
  obtain rfl := fin_N0 t
  rw [bigSep_W0, bigSep_W0]
  simp only [owns_held]
  rw [state_first, state_succ, show defs₀ (F := F) Proc.tc 0 (t0_0, cfg0.slots t0_0) = body from body_eq]
  unfold body
  rw [Prog.bind_lift, wp_deviceId]
  unfold atStart atEnd
  iintro ⟨⟨⟨Hop, Hlev⟩, Hsc, Hp⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before_0] at h0; rw [before_1] at h1; rw [before_2] at h2; rw [before_3] at h3; rw [before_4] at h4
  subst h0 h1 h2 h3 h4
  ihave HO := (owes_out m c _ _ (owed_first m c)) $$ HO
  iapply (body_run (blocks m) c _)
  isplitl [Hop]; · iexact Hop
  isplitl [Hlev]; · iexact Hlev
  isplitl [HO]; · iexact HO
  isplitl [H0 H1 H2 H3 H4]
  · unfold inputs
    isplitl [H0]; · iexact H0
    isplitl [H1]; · iexact H1
    isplitl [H2]; · iexact H2
    isplitl [H3]; · iexact H3
    iexact H4
  isplitl [H5]; · iexists _; iexact H5
  isplitl [Hsc]; · iexact Hsc
  unfold inputs
  iintro ⟨Hz, HO, ⟨H0, H1, H2, H3, H4⟩, H5, Hsc⟩
  isplitl [Hz Hsc Hp]
  · isplitl [Hz]; · iexact Hz
    isplitl [Hsc] <;> iassumption
  isplitl [HO]; · iapply (owes_in m c _ _ (owed_succ m c)); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

/-! ## The segment -/

/-- What the calls leave in the arrays they write. -/
def outs : Outs (F := F) := fun _ r c =>
  Function.update (fun r : Ref sig .tc => m ((c : Thread nD τ).loc r)) main_v18 ((dat m c).arrAt 5 cfg0.N) r
theorem outs_eq (n : ℕ) (c : Dev nD) : outs m n main_v18 c = (dat m c).arrAt 5 cfg0.N := Function.update_self ..

theorem open_lanes (c : Dev nD) : iprop(start (blocks m) c ∗ Pipeline.ownSems0 osem c ∗ levAts L lv)
    ⊢ (|={Set.univ}=> iprop(opened (blocks m) c ∗ levAts L lv) : sProp 𝕄) := by
  unfold start opened Pipeline.ownSems0
  iintro ⟨⟨%K, #HI, Hat, Hop, Ht, Hc⟩, Hs, Hlev⟩
  ihave H := (Entails.of_eq (bigSep_sep' (Finset.univ : Finset Lane) (fun k => (openTok ER (cell c k) : sProp 𝕄)) (fun k => semVal ((c : Thread nD τ), osem k) 0)).symm) $$ [Hop Hs]
  · isplitl [Hop]; · iexact Hop
    iexact Hs
  ihave H := (bigSep_with_persistent (S := (Finset.univ : Finset Lane)) (R := invs (blocks m) K)
    (Φ := fun k => iprop(openTok ER (cell c k) ∗ semVal ((c : Thread nD τ), osem k) 0))
    (Ψ := fun k => iprop(|={Set.univ}=> (atPos ER (cell c k) 0 ∅ 0 ∗ reached ER (cell c k) 0))) fun k _ => by
      iintro ⟨#HI, Ho, Hs⟩
      ihave #Hk := (invs_lane (blocks m) K c k) $$ HI
      iapply (Rounds.cell_open ER (sched (blocks m)) (g := cell c k) (Set.mem_univ (K (cell c k))))
      isplitr; · iexact Hk
      isplitl [Ho] <;> iassumption) $$ [H]
  · isplitr; · iexact HI
    iexact H
  ihave H := (bigSep_fupd (Finset.univ : Finset Lane) fun k => iprop(atPos ER (cell c k) 0 ∅ 0 ∗ reached ER (cell c k) 0)) $$ H
  imod H
  imodintro
  isplitr [Hlev]
  · iexists K
    isplitr; · iexact HI
    isplitl [Hat]; · iexact Hat
    isplitl [H]; · iexact H
    isplitl [Ht] <;> iassumption
  iexact Hlev

theorem enter (c : Dev nD) : iprop(Pipeline.scopedRest (Pipeline.pin (pcfgs (F := F)) adm 0).spec c ∗ (∃ r, prngReg c r)
      ∗ StableHlo.held (c.tc : Thread nD τ) ∅ (V1 m c) ∗ iprop(opened (blocks m) c ∗ levAts L lv)) ⊢ (pdats m 0 c).Φ 0 := by
  rw [show (pdats m 0 c).Φ 0 = atStart m c from state_zero m c]
  rw [show (Pipeline.scopedRest (Pipeline.pin (pcfgs (F := F)) adm 0).spec c : sProp 𝕄) = scratch c from scopedRest0_eq c]
  unfold atStart
  iintro ⟨Hs, Hp, -, Hx⟩
  isplitl [Hx]; · iexact Hx
  isplitl [Hs] <;> iassumption

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ semVal (barCell c) 0) := by
  rw [show (pdats m 0 c).Φ (Fin.last (Pipeline.pin (pcfgs (F := F)) adm 0).N) = atEnd c from state_last m c]
  rw [show (Pipeline.scopedRest (Pipeline.pin (pcfgs (F := F)) adm 0).spec c : sProp 𝕄) = scratch c from scopedRest0_eq c,
    show (StableHlo.held (c.tc : Thread nD τ) ∅ (V2 m (outs m) c) : sProp 𝕄) = iprop(emp) from bigSep_empty]
  unfold atEnd zeros Pipeline.ownSems0
  iintro ⟨⟨Hb, Hl⟩, Hs, Hp⟩
  isplitl [Hs]; · iexact Hs
  isplitl [Hp]; · iexact Hp
  isplitr; · iempintro
  isplitl [Hl] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = owedAt c t.val := rfl
  rw [e] at h
  rcases Nat.eq_zero_or_pos t.val with h0 | h0
  · rw [h0, owedAt_zero] at h
    exact ⟨L_of_tc (O₀_pos h).1 i, (O₀_pos h).2⟩
  · obtain ⟨n, hn⟩ := Nat.exists_eq_succ_of_ne_zero (Nat.ne_of_gt h0)
    rw [hn, owedAt_succ] at h
    exact absurd h (Nat.lt_irrefl 0)

theorem dec_stage : ∀ (w : Fin 6) (s : Fin (spec0 w).nbuf), dec (.dma ((spec0 w).sem s)) = none := by decide

theorem own_sems : Pipeline.OwnSemFacts spec0 osem := by decide +kernel

/-- The windows' arrays after the call. -/
theorem arr_after (c : Dev nD) (w : Fin 6) : (dat m c).arrAt w cfg0.N = V2 m (outs m) c (Proc.devRef .tc (Pipeline.arrRef spec0 w)) := by
  fin_cases w
  · exact ((dat m c).arrAt_in 0 rfl _).trans (V2_of m (outs m) c main_v5 (by decide)).symm
  · exact ((dat m c).arrAt_in 1 rfl _).trans (V2_of m (outs m) c main_v12 (by decide)).symm
  · exact ((dat m c).arrAt_in 2 rfl _).trans (V2_of m (outs m) c main_v6 (by decide)).symm
  · exact ((dat m c).arrAt_in 3 rfl _).trans (V2_of m (outs m) c main_v7 (by decide)).symm
  · exact ((dat m c).arrAt_in 4 rfl _).trans (V2_of m (outs m) c main_v17 (by decide)).symm
  · exact (outs_eq m 2 c).symm.trans (Function.update_self (β := fun b : DevRef τ sig => Buf (Elt F) (c, b)) (Proc.devRef .tc main_v18) _ _).symm

set_option backward.isDefEq.respectTransparency.types false in
/-- The call's record. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_sems
    ∅ (Pipeline.ucRefs τ sig \ Pipeline.arrRefs spec0) (Finset.empty_subset _) kitP rfl (fun c => (body_obligation m c).loose)
    (fun _ => 0) O₀ (fun c => (owed_zero m c).trans (zero_add _).symm) (owed_last m) (fun _ => rfl)
    (fun c => (dat m c).share_full fun _ => rfl)
    (V1 m) (V2 m (outs m))
    (fun c b hb => by
      refine Function.update_of_ne (fun h => ?_) _ _
      subst h
      exact (Finset.mem_sdiff.mp (Finset.mem_sdiff.mp hb).1).2 (by unfold Pipeline.arrRefs; exact Finset.mem_map_of_mem _ (Finset.mem_image_of_mem _ (Finset.mem_univ (5 : Fin 6)))))
    (start (blocks m)) (fun c => semVal (barCell c) 0) (fun c => iprop(opened (blocks m) c ∗ levAts L lv)) (fun c => semVal (barCell c) 0)
    (open_lanes m) (enter m) (leave m)
    (fun c => by iintro H; imodintro; iexact H)
    (fun _ => 0)
    ⟨fun c w s => L_of_tc rfl (), fun c w s => le_of_eq (congrArg lvOf (dec_stage w s)), fun c t g i h => cut m c t g i h⟩
    (fun _ => iprop(emp))
    (fun _ _ => rfl) (arr_after m)

/-- What rides beside the buffers: before the call and after it. -/
def rest (n : Fin 2) (c : Dev nD) : sProp 𝕄 :=
  if n = 0 then iprop(start (blocks m) c ∗ (∃ r, prngReg c r) ∗ owing c (O₀ c))
  else iprop(semVal (barCell c) 0 ∗ owing c (0 : CellTallies nD τ sig Unit))

theorem arrs_sub : Pipeline.arrRefs (τ := τ) spec0 ⊆ Pipeline.ucRefs τ sig := Pipeline.arrRefs_sub_ucRefs spec0 winFacts0.arr_unscoped

theorem reg_pre (c : Dev nD) : iprop(StableHlo.held (c : Thread nD τ) (Pipeline.ucRefs τ sig) (V1 m c) ∗ rest m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) (Pipeline.ucRefs τ sig \ Pipeline.arrRefs spec0) (V1 m c) ∗ emp) ∗ start (blocks m) c
    ∗ ∃ Wd, owes (c : Thread nD τ) (0 + O₀ c) Wd)
  rw [StableHlo.held_sub_split (c : Thread nD τ) arrs_sub (V1 m c), zero_add, show rest m 0 c = iprop(start (blocks m) c ∗ (∃ r, prngReg c r) ∗ owing c (O₀ c)) from if_pos rfl]
  iintro ⟨⟨Ha, Hr⟩, Hst, Hp, HO⟩
  isplitl [Ha]; · iexact Ha
  isplitl [Hp]; · iexact Hp
  isplitl [Hr]
  · isplitl [Hr]; · iexact Hr
    iempintro
  isplitl [Hst] <;> iassumption

theorem reg_post (c : Dev nD) : (reg m).post c ⊢ iprop(StableHlo.held (c : Thread nD τ) (Pipeline.ucRefs τ sig) (V2 m (outs m) c) ∗ rest m 1 c) := by
  show iprop(StableHlo.held (c.tc : Thread nD τ) (Pipeline.arrRefs (τ := τ) spec0) (V2 m (outs m) c) ∗ (∃ r, prngReg c r)
    ∗ (StableHlo.held (c.tc : Thread nD τ) (Pipeline.ucRefs τ sig \ Pipeline.arrRefs spec0) (V2 m (outs m) c) ∗ emp) ∗ semVal (barCell c) 0
    ∗ ∃ Wd, owes (c : Thread nD τ) (0 : CellTallies nD τ sig Unit) Wd) ⊢ _
  rw [StableHlo.held_sub_split (c : Thread nD τ) arrs_sub (V2 m (outs m) c),
    show rest m 1 c = iprop(semVal (barCell c) 0 ∗ owing c (0 : CellTallies nD τ sig Unit)) from if_neg (by decide)]
  iintro ⟨Ha, -, ⟨Hr, -⟩, Hb, HO⟩
  isplitl [Ha Hr]; · isplitl [Ha] <;> iassumption
  isplitl [Hb] <;> iassumption

end Cert.KernelIdeal.Ring
-- ==== Proof.Launch.lean ====
module

public import proofs.«01_k».proof.Proof.Region

@[expose] public section

noncomputable section

/-! # The launch

The protocol's cells, tokens and credits are made at the launch and dealt to the devices; `run_main` is the whole
program's run: what every unscoped buffer of every device holds at the end, and that every counter is zero. -/

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)
open Cert.KernelIdeal.Gen

variable {F : FTy → Type} [FloatOps F] [Named F]

local notation "𝕄" => MT nD τ sig Unit (Elt F) ℕ UU ℕ

/-! ## Cells and tokens -/

def barEmb : Dev nD ↪ GSem nD τ sig := ⟨fun c => barCell c, fun _ _ h => congrArg (fun g : GSem nD τ sig => g.1.1) h⟩
def laneEmb : Dev nD × Lane ↪ GSem nD τ sig :=
  ⟨fun x => cell x.1 x.2, fun _ _ h => Prod.ext (congrArg (fun g : GSem nD τ sig => g.1.1) h) (osem_inj (Prod.ext_iff.mp h).2)⟩
def barCells : Finset (GSem nD τ sig) := Finset.univ.map barEmb
def laneCells : Finset (GSem nD τ sig) := Finset.univ.map laneEmb

theorem bar_ne_lane (c c' : Dev nD) (k : Lane) : barCell c ≠ cell c' k := fun h => by
  have h2 : SemLoc.reg barS = osem k := (Prod.ext_iff.mp h).2
  cases h2

theorem cells_disjoint : Disjoint barCells laneCells := Finset.disjoint_left.mpr fun g h1 h2 => by
  obtain ⟨c, -, rfl⟩ := Finset.mem_map.mp h1
  obtain ⟨x, -, h⟩ := Finset.mem_map.mp h2
  exact bar_ne_lane c x.1 x.2 h.symm

/-- The duties of the barrier cells and of the transfer cells. -/
def barTok : Dev nD × Dev nD ↪ GSem nD τ sig × ℕ × Dev nD :=
  ⟨fun x => (barCell x.2, 0, x.1), fun _ _ h => Prod.ext (congrArg (fun t : GSem nD τ sig × ℕ × Dev nD => t.2.2) h)
    (congrArg (fun t : GSem nD τ sig × ℕ × Dev nD => t.1.1.1) h)⟩
def laneTok : Dev nD × Lane ↪ GSem nD τ sig × ℕ × Dev nD :=
  ⟨fun x => (cell x.1 x.2, 0, 0), fun _ _ h => laneEmb.injective (Prod.ext_iff.mp h).1⟩
def allToks : Finset (GSem nD τ sig × ℕ × Dev nD) := Finset.univ.map barTok ∪ Finset.univ.map laneTok

theorem toks_disjoint : Disjoint (Finset.univ.map barTok) (Finset.univ.map laneTok) := Finset.disjoint_left.mpr fun t h1 h2 => by
  obtain ⟨x, -, rfl⟩ := Finset.mem_map.mp h1
  obtain ⟨y, -, h⟩ := Finset.mem_map.mp h2
  exact bar_ne_lane x.2 y.1 y.2 (Prod.ext_iff.mp h).1.symm

/-- Every device moved by each hop. -/
def hopAll : Dev nD × Fin 15 ≃ Dev nD × Fin 15 :=
  ⟨fun x => (fwd x.1 x.2, x.2), fun x => (bwd x.1 x.2, x.2), fun x => Prod.ext (bwd_fwd x.1 x.2) rfl, fun x => Prod.ext (fwd_bwd x.1 x.2) rfl⟩

/-- A family over devices and hops, each hop's devices renamed by the hop. -/
theorem by_hop (Φ : Dev nD → Fin 15 → sProp 𝕄) :
    bigSep Finset.univ (fun c : Dev nD => bigSep Finset.univ (fun o : Fin 15 => Φ c o))
      = bigSep Finset.univ (fun c : Dev nD => bigSep Finset.univ (fun o : Fin 15 => Φ (fwd c o) o)) :=
  (bigSep_univ_prod (fun x : Dev nD × Fin 15 => Φ x.1 x.2)).symm.trans
    ((bigSep_univ_equiv hopAll (fun x : Dev nD × Fin 15 => Φ x.1 x.2)).trans (bigSep_univ_prod (fun x : Dev nD × Fin 15 => Φ (fwd x.1 x.2) x.2)))

/-- The tokens, each dealt to the device that pays it. -/
theorem deal : bigSep allToks (fun x => (dutyTok ER x.1 x.2.1 x.2.2 : sProp 𝕄)) = bigSep Finset.univ (fun c : Dev nD => toks (F := F) c) := by
  unfold allToks
  rw [bigSep_union toks_disjoint, bigSep_map, bigSep_map, bigSep_univ_prod, bigSep_univ_prod]
  unfold toks
  rw [bigSep_sep', bigSep_sep', bigSep_sep', bigSep_sep',
    ← by_hop fun c o => (dutyTok ER (cell c (1, o)) 0 (0 : Dev nD) : sProp 𝕄), ← by_hop fun c o => (dutyTok ER (cell c (3, o)) 0 (0 : Dev nD) : sProp 𝕄)]
  rw [← bigSep_sep', ← bigSep_sep', ← bigSep_sep']
  refine congrArg₂ _ rfl (bigSep_congr fun c _ => ?_)
  exact by_family (fun k : Lane => (dutyTok ER (cell c k) 0 (0 : Dev nD) : sProp 𝕄))

/-! ## Credits -/

theorem sum_at {α : Type} (f : α → CellTallies nD τ sig Unit) (g : GSem nD τ sig) (u : Unit) :
    ∀ l : List α, (l.map f).sum g u = (l.map fun a => f a g u).sum
  | [] => rfl
  | a :: l => by rw [List.map_cons, List.sum_cons, Pi.add_apply, Finsupp.add_apply, sum_at f g u l, List.map_cons, List.sum_cons]

theorem hops_sum (f : Fin 15 → ℕ) : (hops.map f).sum = ∑ o, f o := by
  rw [show hops = List.finRange 15 from by decide, ← Fin.sum_univ_def]
theorem devs_sum (f : Dev nD → ℕ) : (devs.map f).sum = ∑ j, f j := by
  rw [show devs = List.finRange 16 from by decide, ← Fin.sum_univ_def]

theorem zero_of_lv {n k : ℕ} {g : GSem nD τ sig} (h : 0 < n → g.1.2 = .tc ∧ lv g () = k) (hk : lv g () ≠ k) : n = 0 := by
  rcases Nat.eq_zero_or_pos n with h0 | h0
  · exact h0
  · exact absurd (h h0).2 hk

theorem cell_eq_iff (c d : Dev nD) (i : Fin 4) (o o' : Fin 15) : cell c (i, o) = cell (fwd d o') (i, o') ↔ o' = o ∧ d = bwd c o := by
  constructor
  · intro h
    obtain rfl : o' = o := (Prod.ext_iff.mp (osem_inj (Prod.ext_iff.mp h).2)).2.symm
    have h1 : c = fwd d o' := congrArg (fun g : GSem nD τ sig => g.1.1) h
    exact ⟨rfl, by rw [h1, bwd_fwd]⟩
  · rintro ⟨rfl, rfl⟩
    rw [fwd_bwd]

/-- A family's tally at one of its cells. -/
theorem lane_tally (c d : Dev nD) (i : Fin 4) (o : Fin 15) (n : ℕ) :
    (hops.map fun o' => (tallyAt (cell (fwd d o') (i, o')) () n : CellTallies nD τ sig Unit)).sum (cell c (i, o)) () = if d = bwd c o then n else 0 := by
  rw [sum_at, hops_sum, Finset.sum_congr rfl fun o' _ => show _ = (if o' = o then (if d = bwd c o then n else 0) else 0) from by
    rw [tallyAt_apply]
    by_cases h : o' = o
    · rw [if_pos h]
      by_cases h2 : d = bwd c o
      · rw [if_pos h2, if_pos ⟨(cell_eq_iff c d i o o').mpr ⟨h, h2⟩, rfl⟩]
      · rw [if_neg h2, if_neg fun hc => h2 ((cell_eq_iff c d i o o').mp hc.1).2]
    · rw [if_neg h, if_neg fun hc => h ((cell_eq_iff c d i o o').mp hc.1).1]]
  rw [Finset.sum_ite_eq', if_pos (Finset.mem_univ _)]

theorem owed_bar (d c : Dev nD) : O₀ d (barCell c) () = 1 := by
  unfold O₀
  rw [Pi.add_apply, Finsupp.add_apply, Pi.add_apply, Finsupp.add_apply, zero_of_lv (tRs_pos (c := d) (l := hops) (g := barCell c) (u := ())) (by rw [lv_bar]; decide),
    zero_of_lv (tAg_pos (c := d) (l := hops) (g := barCell c) (u := ())) (by rw [lv_bar]; decide)]
  unfold tBar
  rw [sum_at, devs_sum, Finset.sum_congr rfl fun j _ => show _ = (if j = c then 1 else 0) from by
    rw [tallyAt_apply]
    by_cases h : j = c
    · rw [if_pos h, if_pos ⟨by rw [h], rfl⟩]
    · rw [if_neg h, if_neg fun hc => h (congrArg (fun g : GSem nD τ sig => g.1.1) hc.1).symm]]
  rw [Finset.sum_ite_eq', if_pos (Finset.mem_univ _), add_zero, add_zero]
theorem owed_rs (d c : Dev nD) (o : Fin 15) : O₀ d (cell c (1, o)) () = if d = bwd c o then N else 0 := by
  unfold O₀
  rw [Pi.add_apply, Finsupp.add_apply, Pi.add_apply, Finsupp.add_apply, zero_of_lv (tBar_pos (l := devs) (g := cell c (1, o)) (u := ())) (by rw [lv_lane]; revert o; decide),
    zero_of_lv (tAg_pos (c := d) (l := hops) (g := cell c (1, o)) (u := ())) (by rw [lv_lane]; revert o; decide), zero_add, add_zero]
  exact lane_tally c d 1 o N
theorem owed_ag (d c : Dev nD) (o : Fin 15) : O₀ d (cell c (3, o)) () = if d = bwd c o then N else 0 := by
  unfold O₀
  rw [Pi.add_apply, Finsupp.add_apply, Pi.add_apply, Finsupp.add_apply, zero_of_lv (tBar_pos (l := devs) (g := cell c (3, o)) (u := ())) (by rw [lv_lane]; revert o; decide),
    zero_of_lv (tRs_pos (c := d) (l := hops) (g := cell c (3, o)) (u := ())) (by rw [lv_lane]; revert o; decide), zero_add, zero_add]
  exact lane_tally c d 3 o N

theorem launch_bar (c : Dev nD) :
    tallyOn (barCell c) (launchCredit (Pipeline.owing O₀) 0 (barCell c)) = (tallyAt (barCell c) () 16 : CellTallies nD τ sig Unit) := by
  unfold tallyAt
  refine congrArg _ (Finsupp.ext fun u => ?_)
  cases u
  rw [Pipeline.launchCredit_owing, Finsupp.single_eq_same, Finset.sum_congr rfl fun d _ => owed_bar d c]
  rfl
theorem launch_lane (c : Dev nD) (i : Fin 4) (o : Fin 15) (h : ∀ d, O₀ d (cell c (i, o)) () = if d = bwd c o then N else 0) :
    tallyOn (cell c (i, o)) (launchCredit (Pipeline.owing O₀) 0 (cell c (i, o))) = (tallyAt (cell c (i, o)) () N : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (bwd c o) fun _ => N,
    if_pos (Finset.mem_univ _)]

def osemEmb : Lane ↪ SemLoc sig := ⟨osem, osem_inj⟩
theorem lanes_sub : Finset.univ.map osemEmb ⊆ Finset.univ.erase (SemLoc.reg barS : SemLoc sig) := fun s hs => by
  obtain ⟨k, -, rfl⟩ := Finset.mem_map.mp hs
  exact Finset.mem_erase.mpr ⟨(fun h : osem k = SemLoc.reg barS => by cases h), Finset.mem_univ _⟩

/-- Each device finds the credits it waits with. -/
theorem credit (c : Dev nD) : (Pipeline.launchCred O₀ c : sProp 𝕄) ⊢ creds c := by
  unfold Pipeline.launchCred creds
  rw [bigSep_univ_at _ (SemLoc.reg barS), launch_bar, bigSep_sdiff_split lanes_sub, bigSep_map,
    by_family (fun k : Lane => (cred (tallyOn ((c : Thread nD τ), osemEmb k) (launchCredit (Pipeline.owing O₀) 0 ((c : Thread nD τ), osemEmb k))) : sProp 𝕄)),
    bigSep_congr (Φ := fun o : Fin 15 => (cred (tallyOn ((c : Thread nD τ), osemEmb (1, o)) (launchCredit (Pipeline.owing O₀) 0 ((c : Thread nD τ), osemEmb (1, o)))) : sProp 𝕄))
      fun o _ => congrArg cred (launch_lane c 1 o fun d => owed_rs d c o),
    bigSep_congr (Φ := fun o : Fin 15 => (cred (tallyOn ((c : Thread nD τ), osemEmb (3, o)) (launchCredit (Pipeline.owing O₀) 0 ((c : Thread nD τ), osemEmb (3, o)))) : sProp 𝕄))
      fun o _ => congrArg cred (launch_lane c 3 o fun d => owed_ag d c o)]
  show iprop(_ ∗ ((_ ∗ _ ∗ _ ∗ _) ∗ _)) ⊢ _
  iintro ⟨Hb, ⟨-, H1, -, H3⟩, -⟩
  isplitl [Hb]; · iexact Hb
  isplitl [H1] <;> iassumption

/-! ## The run -/

variable (m : (ℓ : Loc nD τ sig) → Buf (Elt F) ℓ) (ρ : Dev nD → PrngReg)

/-- The launch element: the window pipeline's part, and the protocol's. -/
def u₀ : UU := (initOf (Pipeline.cells cfgs cellOf_inj) (Pipeline.launchToks cfgs cellOf_inj), launchOf barCells laneCells allToks)

/-- The protocol's part, kept by device 0 until it is dealt. -/
def seed (c : Dev nD) : sProp 𝕄 := if c = 0 then BI.own (ER (launchOf barCells laneCells allToks)) else iprop(emp)

theorem seed_eq : bigSep Finset.univ (seed (F := F)) = BI.own (ER (launchOf barCells laneCells allToks)) := by
  rw [bigSep_univ_at _ (0 : Dev nD), bigSep_congr (s := Finset.univ.erase (0 : Dev nD)) (Ψ := fun _ => (BI.emp : sProp 𝕄))
      fun c hc => by unfold seed; rw [if_neg (Finset.ne_of_mem_erase hc)]; rfl, BI.bigSep_emp_const]
  unfold seed; rw [if_pos rfl]
  exact BI.equiv_iff.mp sep_emp

theorem counters_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A family over all cells. -/
theorem over_cells (Φ : GSem nD τ sig → sProp 𝕄) : bigSep (barCells ∪ laneCells) Φ ⊢ bigSep Finset.univ (fun x : CI => Φ (ciCell x)) := by
  refine Entails.of_eq ?_
  rw [show barCells ∪ laneCells = Finset.univ.map ⟨ciCell, ciCell_inj⟩ from ?_, bigSep_map]
  · rfl
  ext g
  rw [Finset.mem_union]
  constructor
  · rintro (h | h)
    · obtain ⟨c, -, rfl⟩ := Finset.mem_map.mp h
      exact Finset.mem_map.mpr ⟨(c, none), Finset.mem_univ _, rfl⟩
    · obtain ⟨x, -, rfl⟩ := Finset.mem_map.mp h
      exact Finset.mem_map.mpr ⟨(x.1, some x.2), Finset.mem_univ _, rfl⟩
  · intro h
    obtain ⟨⟨c, _ | k⟩, -, rfl⟩ := Finset.mem_map.mp h
    · exact .inl (Finset.mem_map_of_mem barEmb (Finset.mem_univ c))
    · exact .inr (Finset.mem_map_of_mem laneEmb (Finset.mem_univ (c, k)))

/-- What a device holds that is not the protocol's. -/
def own (c : Dev nD) : sProp 𝕄 :=
  iprop(StableHlo.held (c : Thread nD τ) (Pipeline.ucRefs τ sig) (V0 m c) ∗ creds c ∗ owes (c : Thread nD τ) (O₀ c) ∅ ∗ prngReg c (ρ c))

abbrev first (c : Dev nD) : sProp 𝕄 := iprop(StableHlo.held (c : Thread nD τ) (Pipeline.ucRefs τ sig) (V0 m c) ∗ rest m 0 c)
abbrev last (c : Dev nD) : sProp 𝕄 := iprop(StableHlo.held (c : Thread nD τ) (Pipeline.ucRefs τ sig) (V3 m (outs m) c) ∗ semVal (barCell c) 0)

theorem first_intro (κ : GSem nD τ sig → ℕ) (c : Dev nD) :
    iprop(invs (blocks m) κ ∗ (atPos ER (barCell c) 0 ∅ 0 ∗ bigSep Finset.univ (fun k : Lane => openTok ER (cell c k)) ∗ toks c) ∗ own m ρ c) ⊢ first m c := by
  unfold own first
  rw [show rest m 0 c = iprop(start (blocks m) c ∗ (∃ r, prngReg c r) ∗ owing c (O₀ c)) from if_pos rfl]
  unfold start
  iintro ⟨#HI, ⟨Hat, Hop, Ht⟩, Hh, Hc, HO, Hp⟩
  isplitl [Hh]; · iexact Hh
  isplitl [Hat Hop Ht Hc]
  · iexists κ
    isplitr; · iexact HI
    isplitl [Hat]; · iexact Hat
    isplitl [Hop]; · iexact Hop
    isplitl [Ht] <;> iassumption
  isplitl [Hp]; · iexists _; iexact Hp
  iexists _; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ seed c)) ∗ levAts L lv)
      ⊢ (|={Set.univ}=> bigSep Finset.univ (first m) : sProp 𝕄) := by
  have split (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ seed c)
      ⊢ (iprop(own m ρ c ∗ semVal (barCell c) 0 ∗ seed c) : sProp 𝕄) := by
    rw [show unscopedBufs c (fun b => m ((c : Thread nD τ).loc b)) = StableHlo.held (c : Thread nD τ) (Pipeline.ucRefs τ sig) (V0 m c) from
      Pipeline.unscopedBufs_held c (V0 m c), counters_eq]
    unfold own
    iintro ⟨Hh, Hs, HO, Hc, Hp, HG⟩
    ihave Hc := (credit c) $$ Hc
    isplitl [Hh HO Hc Hp]
    · isplitl [Hh]; · iexact Hh
      isplitl [Hc]; · iexact Hc
      isplitl [HO] <;> iassumption
    isplitl [Hs] <;> iassumption
  have splits : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ seed c))
      ⊢ (iprop(bigSep Finset.univ (own m ρ) ∗ bigSep barCells (fun g => (semVal g 0 : sProp 𝕄)) ∗ BI.own (ER (launchOf barCells laneCells allToks))) : sProp 𝕄) := by
    rw [← seed_eq, show bigSep barCells (fun g => (semVal g 0 : sProp 𝕄)) = bigSep Finset.univ (fun c : Dev nD => (semVal (barCell c) 0 : sProp 𝕄)) from bigSep_map ..,
      ← bigSep_sep', ← bigSep_sep']
    exact bigSep_mono fun c _ => split c
  have deals : iprop(bigSep barCells (fun g => (atPos ER g 0 ∅ 0 : sProp 𝕄)) ∗ bigSep laneCells (fun g => (openTok ER g : sProp 𝕄))
        ∗ bigSep allToks (fun x => (dutyTok ER x.1 x.2.1 x.2.2 : sProp 𝕄)) ∗ bigSep Finset.univ (own m ρ))
      ⊢ bigSep Finset.univ (fun c : Dev nD => iprop((atPos ER (barCell c) 0 ∅ 0 ∗ bigSep Finset.univ (fun k : Lane => openTok ER (cell c k)) ∗ toks c) ∗ own m ρ c)) := by
    rw [deal, bigSep_sep', bigSep_sep', bigSep_sep',
      show bigSep barCells (fun g => (atPos ER g 0 ∅ 0 : sProp 𝕄)) = bigSep Finset.univ (fun c : Dev nD => (atPos ER (barCell c) 0 ∅ 0 : sProp 𝕄)) from bigSep_map ..,
      show bigSep laneCells (fun g => (openTok ER g : sProp 𝕄)) = bigSep Finset.univ (fun c : Dev nD => bigSep Finset.univ (fun k : Lane => (openTok ER (cell c k) : sProp 𝕄)))
        from (bigSep_map ..).trans (bigSep_univ_prod _)]
    iintro ⟨H1, H2, H3, H4⟩
    isplitr [H4]
    · isplitl [H1]; · iexact H1
      isplitl [H2] <;> iassumption
    iexact H4
  have reach : bigSep barCells (fun g => (reached ER g 0 : sProp 𝕄)) ⊢ bigSep Finset.univ (fun j : Dev nD => (reached ER (barCell j) 0 : sProp 𝕄)) :=
    Entails.of_eq (bigSep_map ..)
  iintro ⟨H, -⟩
  ihave H := splits $$ H
  icases H with ⟨Hown, Hv, Hu⟩
  imod (Rounds.fund_launch ER (sched (blocks m)) cells_disjoint (fun g _ h => h) allToks) $$ [Hv Hu] with ⟨%κ, -, #Hinv, #Hr, Hat, Hopen, Htok⟩
  · isplitl [Hv] <;> iassumption
  imodintro
  iapply (bigSep_with_persistent (R := invs (blocks m) κ) (Φ := fun c => iprop((atPos ER (barCell c) 0 ∅ 0
    ∗ bigSep Finset.univ (fun k : Lane => openTok ER (cell c k)) ∗ toks c) ∗ own m ρ c)) fun c _ => first_intro m ρ κ c)
  isplitr
  · unfold invs
    isplitr; · iapply (over_cells (fun g => cellInv ER (sched (blocks m)) (κ g) g)); iexact Hinv
    iapply reach; iexact Hr
  iapply deals
  isplitl [Hat]; · iexact Hat
  isplitl [Hopen]; · iexact Hopen
  isplitl [Htok] <;> iassumption

theorem unscoped_sem : ∀ sm : SemLoc sig, sm.isScoped .tc = false → sm = .reg barS := by decide

set_option backward.isDefEq.respectTransparency.types false in
/-- Every run of the program ends, with every unscoped buffer of every device at the last valuation and every counter at
    zero. -/
theorem run_main : θ_run defs (onTc (τ := τ) (main (F := F))) ⟨m, fun _ => 0, ρ⟩ (fun r =>
    (∀ c : Dev nD, ∀ b ∈ Pipeline.ucRefs τ sig, r.2.mem (c, b) = V3 m (outs m) c b) ∧ r.2.sem = fun _ => 0) := by
  refine Pipeline.θ_run_regions_kit_dev_sems (pcfgs (F := F)) adm (pdats m) () cellOf_inj EP defs₀ 𝒱₀ L lv m ρ main
    (segs m (outs m) 𝒱₀ L lv (rest m) () (pdats m) (reg m))
    (fun c Q => by
      rewrite [main_chain c, Seg.run_eq_chain,
        show (segs m (outs m) 𝒱₀ L lv (rest m) () (pdats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne seed u₀ ?hu₀
    (T₀ := first m) (Tₙ := last m)
    (hch := fun c => ⟨.rfl, reg_pre m c, reg_post m c, ?hend⟩)
    (hinit := init m ρ)
    (QY := fun c s => (∀ b ∈ Pipeline.ucRefs τ sig, s.mem (c, b) = V3 m (outs m) c b) ∧ s.sem (barCell c) = 0)
    (hfin := fun c s' => ?hfin)
    (hQ := fun s h hs => ⟨fun c => (h c).1, sem_eq_zero hs fun c sm hsm => by
      obtain rfl := unscoped_sem sm hsm
      exact (h c).2⟩)
  case hu₀ =>
    unfold u₀
    iintro Hu
    ihave H := (ownU_pair _ _) $$ Hu
    icases H with ⟨HP, HX⟩
    imodintro
    isplitl [HP]; · iexact HP
    rw [seed_eq]; iexact HX
  case hend =>
    show iprop(StableHlo.held (c : Thread nD τ) (Pipeline.ucRefs τ sig) (V3 m (outs m) c) ∗ rest m 1 c)
      ⊢ iprop(last m c ∗ ∃ W, owes (c : Thread nD τ) (0 : CellTallies nD τ sig Unit) W)
    rw [show rest m 1 c = iprop(semVal (barCell c) 0 ∗ owing c (0 : CellTallies nD τ sig Unit)) from if_neg (by decide)]
    iintro ⟨Hh, Hb, HO⟩
    isplitr [HO]
    · isplitl [Hh] <;> iassumption
    iexact HO
  case hfin =>
    unfold last StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨h, by simpa using hb⟩
    iexact HSI

/-- The arguments end as launched. -/
theorem args_kept (outs : Outs (F := F)) (c : Dev nD) (μ : (ℓ : Loc nD τ sig) → Buf (Elt F) ℓ)
    (h : ∀ b ∈ Pipeline.ucRefs τ sig, μ (c, b) = V3 m outs c b) :
    μ ((c : Thread nD τ).loc main_arg0) = m ((c : Thread nD τ).loc main_arg0)
      ∧ μ ((c : Thread nD τ).loc main_arg1) = m ((c : Thread nD τ).loc main_arg1)
      ∧ μ ((c : Thread nD τ).loc main_arg2) = m ((c : Thread nD τ).loc main_arg2)
      ∧ μ ((c : Thread nD τ).loc main_arg3) = m ((c : Thread nD τ).loc main_arg3)
      ∧ μ ((c : Thread nD τ).loc main_arg4) = m ((c : Thread nD τ).loc main_arg4) := by
  have mem (r : Ref sig .tc) (hr : ¬ (Proc.devRef (τ := τ) .tc r).isScoped) : (Proc.devRef .tc r : DevRef τ sig) ∈ Pipeline.ucRefs τ sig :=
    Finset.mem_filter.mpr ⟨StableHlo.devRef_mem_tcRefs r, hr⟩
  exact ⟨(h _ (mem main_arg0 (by decide))).trans (V3_main_arg0 m outs c), (h _ (mem main_arg1 (by decide))).trans (V3_main_arg1 m outs c),
    (h _ (mem main_arg2 (by decide))).trans (V3_main_arg2 m outs c), (h _ (mem main_arg3 (by decide))).trans (V3_main_arg3 m outs c),
    (h _ (mem main_arg4 (by decide))).trans (V3_main_arg4 m outs c)⟩

end Cert.KernelIdeal.Ring
-- ==== Proof.Frames.lean ====
module

public import proofs.«01_k».proof.Defs
public import proofs.«01_k».proof.Proof.Launch
public import proofs.«01_k».proof.Proof.Bits.Launch
public import proofs.«01_k».proof.Proof.Gen.ReferenceIdeal.Run

@[expose] public section

noncomputable section

/-! # The frames

Each program runs to the end, its arguments end as they were, and every counter ends at zero; and the one constant that
the idealized kernel names has the value that its table gives. -/

namespace Cert.Proof

open Idealize.ShloMosaic Idealize.ShloMosaic.TcCoe Idealize.SL.Sem

/-- The printed kernel's frame. -/
theorem frame_Kernel : Cert.quiescent_Kernel := fun m g _ =>
  (θ_run Cert.Kernel.defs _ _).mono
    (fun r h => ⟨fun c => Cert.Kernel.Ring.args_kept m (Cert.Kernel.Ring.outs m) c r.2.mem (h.1 c), h.2⟩)
    (Cert.Kernel.Ring.run_main (F := Bits) m g)

/-- The idealized kernel's frame. -/
theorem frame_KernelIdeal : Cert.quiescent_KernelIdeal := fun m g _ =>
  (θ_run Cert.KernelIdeal.defs _ _).mono
    (fun r h => ⟨fun c => Cert.KernelIdeal.Ring.args_kept m (Cert.KernelIdeal.Ring.outs m) c r.2.mem (h.1 c), h.2⟩)
    (Cert.KernelIdeal.Ring.run_main (F := Ideal) m g)

/-- The reference's frame: it has no semaphore at all. -/
theorem frame_ReferenceIdeal : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The kernel's mask constant is named: minus infinity. -/
theorem mask_named : Cert.preserves_Kernel_KernelIdeal := IdealRules.named_const.statement _ _ _ _ _ rfl

end Cert.Proof
-- ==== Proof.Mask.lean ====
module

public import proofs.«01_k».proof.Proof.Values
public import Idealize.ShloMosaic.Lib.Pointwise

@[expose] public section

noncomputable section

/-! # The mask and a head, read at an index

Row `i` and column `j` lie in blocks of sixty-four. A score is kept where the two blocks are the same, where the
column's block is the first, and where the two blocks' numbers sum to a multiple of three. -/

namespace Cert.KernelIdeal.Ring

open Idealize.ShloMosaic Idealize.ShloMosaic.TcCoe Idealize.SL.Sem
open Cert.KernelIdeal.Gen

/-- Where the mask keeps a score. -/
def Keeps (i j : Fin 512) : Prop := i.val / 64 = j.val / 64 ∨ j.val / 64 = 0 ∨ (i.val / 64 + j.val / 64) % 3 = 0
instance (i j : Fin 512) : Decidable (Keeps i j) := by unfold Keeps; infer_instance

theorem keeps_first (i : Fin 512) : Keeps i 0 := Or.inr (Or.inl rfl)

/-- The words of the rows' and of the columns' blocks. -/
theorem rowBlock_word (i j : Fin 512) :
    k0_pay7 (iota .tc S512x512 32 [0] iota_S512x512_d0_w32) 64#32 k0_pay5 k0_pay6 (Scalar.cmpi .sgt 64#32 0#32) (Idealize.ShloMosaic.ix2 i j)
      = BitVec.ofNat 32 (i.val / 64) := by
  pointwise [k0_pay7, k0_pay5, k0_pay6]
  revert i; decide +kernel
theorem colBlock_word (i j : Fin 512) : k0_pay8 (Idealize.ShloMosaic.ix2 i j) = BitVec.ofNat 32 (j.val / 64) := by
  pointwise [k0_pay8]
  revert j; decide +kernel

/-- The kernel's mask bit from the words of a row's and a column's block. -/
def maskBit (r c : BitVec 32) : BitVec 1 :=
  IntOp.ori (IntOp.ori (IntOp.cmpi .eq r c) (IntOp.cmpi .eq c 0#32))
    (IntOp.cmpi .eq (Scalar.select (IntOp.andi (IntOp.xori (IntOp.cmpi .slt (IntOp.remsi .vector (IntOp.addi r c) 3#32) 0#32) 0#1)
        (IntOp.cmpi .ne (IntOp.remsi .vector (IntOp.addi r c) 3#32) 0#32))
      (IntOp.addi (IntOp.remsi .vector (IntOp.addi r c) 3#32) 3#32) (IntOp.remsi .vector (IntOp.addi r c) 3#32)) 0#32)

theorem maskBit_blocks : ∀ a b : Fin 8, maskBit (BitVec.ofNat 32 a.val) (BitVec.ofNat 32 b.val)
    = if a.val = b.val ∨ b.val = 0 ∨ (a.val + b.val) % 3 = 0 then 1#1 else 0#1 := by decide +kernel
theorem maskBit_keeps (i j : Fin 512) :
    maskBit (BitVec.ofNat 32 (i.val / 64)) (BitVec.ofNat 32 (j.val / 64)) = if Keeps i j then 1#1 else 0#1 :=
  maskBit_blocks ⟨i.val / 64, by omega⟩ ⟨j.val / 64, by omega⟩

/-- The kernel's mask as a bias: zero where it keeps, minus infinity elsewhere. -/
theorem bias_apply (i j : Fin 512) : (biasV : FVec Ideal S512x512 .f32) (Idealize.ShloMosaic.ix2 i j) = if Keeps i j then 0 else ⊥ := by
  have hκ : Named.named (F := Ideal) (φ := FTy.f32) κ "mask" 0xCE6E6B28#32 = (⊥ : EReal) := IdealRules.named_const.ideal_named_scalar κ "mask" _ _ rfl
  have e : (biasV : FVec Ideal S512x512 .f32) (Idealize.ShloMosaic.ix2 i j)
      = Scalar.select (maskBit (k0_pay7 (iota .tc S512x512 32 [0] iota_S512x512_d0_w32) 64#32 k0_pay5 k0_pay6 (Scalar.cmpi .sgt 64#32 0#32) (Idealize.ShloMosaic.ix2 i j))
          (k0_pay8 (Idealize.ShloMosaic.ix2 i j)))
        (0 : EReal) (Named.named (F := Ideal) (φ := FTy.f32) κ "mask" 0xCE6E6B28#32) := by
    pointwise [biasV, k0_pay11, k0_pay9, k0_pay10]
    rfl
  rw [e, rowBlock_word, colBlock_word, maskBit_keeps, hκ]
  by_cases h : Keeps i j
  · rw [if_pos h, if_pos h]; rfl
  · rw [if_neg h, if_neg h]; rfl

/-- One head's context at a row and a column. -/
theorem head_apply (b : FVec Ideal S512x512 .f32) (q k v : Vec Ideal S512x64 .bf16) (i : Fin 512) (l : Fin 64) :
    k0_pay13 b q k v (Idealize.ShloMosaic.ix2 i l)
      = (∑ j : Fin 512, Ideal.exp ((∑ d : Fin 64, q (Idealize.ShloMosaic.ix2 i d) * k (Idealize.ShloMosaic.ix2 j d)) * Ideal.ofBits .f32 0x3E000000#32 + b (Idealize.ShloMosaic.ix2 i j)) * v (Idealize.ShloMosaic.ix2 j l))
        * Ideal.div 1 (∑ j : Fin 512, Ideal.exp ((∑ d : Fin 64, q (Idealize.ShloMosaic.ix2 i d) * k (Idealize.ShloMosaic.ix2 j d)) * Ideal.ofBits .f32 0x3E000000#32 + b (Idealize.ShloMosaic.ix2 i j))) := by
  pointwise [k0_pay13]

end Cert.KernelIdeal.Ring
-- ==== Proof.Softmax.lean ====
module

public import Idealize.ShloMosaic.Lib.IdealHost

@[expose] public section

noncomputable section

/-! # A masked row of the softmax

The kernel exponentiates a row's scores as they are and scales the weighted sum by the reciprocal of their sum; the
reference subtracts the row's greatest score first and divides each weight. Where the scores are finite and at least one
is kept the two agree, whatever the values are. -/

namespace Cert.Proof

open Idealize.ShloMosaic

/-- A finite extended real. -/
def IsReal (x : EReal) : Prop := ∃ r : ℝ, x = (r : EReal)

theorem isReal_mul {x y : EReal} (hx : IsReal x) (hy : IsReal y) : IsReal (x * y) := by
  obtain ⟨a, rfl⟩ := hx; obtain ⟨b, rfl⟩ := hy; exact ⟨a * b, (EReal.coe_mul a b).symm⟩
theorem isReal_sum {ι : Type*} (s : Finset ι) (f : ι → EReal) (h : ∀ i, IsReal (f i)) : IsReal (∑ i ∈ s, f i) := by
  choose g hg using h
  refine ⟨∑ i ∈ s, g i, ?_⟩
  simp only [hg]
  induction s using Finset.cons_induction with
  | empty => simp
  | cons a s ha ih => rw [Finset.sum_cons, Finset.sum_cons, ih, EReal.coe_add]

theorem coe_sum {ι : Type*} (s : Finset ι) (g : ι → ℝ) : ∑ i ∈ s, (g i : EReal) = ((∑ i ∈ s, g i : ℝ) : EReal) := by
  induction s using Finset.cons_induction with
  | empty => simp
  | cons a s ha ih => rw [Finset.sum_cons, Finset.sum_cons, ih, EReal.coe_add]

/-- A finite factor that is not negative goes into a sum of any extended reals. -/
theorem sum_mul_coe {ι : Type*} (s : Finset ι) (f : ι → EReal) (r : ℝ) (h : 0 ≤ r) : (∑ i ∈ s, f i) * (r : EReal) = ∑ i ∈ s, f i * (r : EReal) := by
  induction s using Finset.cons_induction with
  | empty => simp
  | cons a s ha ih =>
    rw [Finset.sum_cons, Finset.sum_cons, ← ih]
    exact EReal.right_distrib_of_nonneg_of_ne_top (EReal.coe_nonneg.mpr h) (EReal.coe_ne_top r) _ _

/-- The greatest of a row in which some scores are real and the others minus infinity is real. -/
theorem fold_max_real {ι : Type*} (s : Finset ι) (t : ι → EReal) (h : ∀ i, t i = ⊥ ∨ IsReal (t i)) :
    s.fold max ⊥ t = ⊥ ∨ IsReal (s.fold max ⊥ t) := by
  induction s using Finset.cons_induction with
  | empty => exact Or.inl rfl
  | cons a s ha ih =>
    rw [Finset.fold_cons]
    rcases max_choice (t a) (s.fold max ⊥ t) with e | e <;> rw [e]
    · exact h a
    · exact ih
theorem le_fold_max {ι : Type*} (s : Finset ι) (t : ι → EReal) (i : ι) (hi : i ∈ s) : t i ≤ s.fold max ⊥ t :=
  (Finset.le_fold_max (t i)).mpr (Or.inr ⟨i, hi, le_rfl⟩)

/-! ## The words of the constants -/

/-- The scale is an eighth, and the reference's fill is minus infinity. -/
theorem scale_real : IsReal (Ideal.ofBits .f32 0x3E000000#32) := ⟨1 / 8, by simp [Ideal.ofBits, Ideal.ieee, -EReal.coe_mul]; norm_num⟩
theorem fill_bot : Ideal.ofBits .f32 0xFF800000#32 = ⊥ := by simp [Ideal.ofBits, Ideal.ieee]

/-- The word the precondition compares with is plus infinity. -/
theorem inf_top : Ideal.ofBits .f32 0x7F800000#32 = ⊤ := by simp [Ideal.ofBits, Ideal.ieee]

/-- A magnitude below plus infinity is a real's. -/
theorem isReal_of_abs_lt {x : EReal} (h : Ideal.cmp .olt (max x (-x)) ⊤ = 1#1) : IsReal x := by
  induction x using EReal.rec with
  | bot => simp [Ideal.cmp] at h
  | top => simp [Ideal.cmp] at h
  | coe r => exact ⟨r, rfl⟩

/-! ## The row -/

variable {n : ℕ} (keep : Fin n → Prop) [DecidablePred keep]

/-- The exponential of a masked score. -/
theorem exp_masked (p : Prop) [Decidable p] (r : ℝ) : Ideal.exp ((r : EReal) + (if p then 0 else ⊥)) = ((if p then Real.exp r else 0 : ℝ) : EReal) := by
  split_ifs with h
  · rw [add_zero, Ideal.exp_coe]
  · rw [EReal.add_bot, Ideal.exp_bot, EReal.coe_zero]
theorem exp_shifted (p : Prop) [Decidable p] (r μ : ℝ) :
    Ideal.exp ((if p then (r : EReal) else ⊥) - (μ : EReal)) = (((if p then Real.exp r else 0) * Real.exp (-μ) : ℝ) : EReal) := by
  split_ifs with h
  · rw [← EReal.coe_sub, Ideal.exp_coe, sub_eq_add_neg, Real.exp_add]
  · rw [EReal.bot_sub, Ideal.exp_bot, zero_mul, EReal.coe_zero]

/-- A masked row's weighted sum in the kernel's order of operations. -/
def rowSum (s v : Fin n → EReal) : EReal :=
  (∑ j, Ideal.exp (s j + (if keep j then 0 else ⊥)) * v j) * Ideal.div 1 (∑ j, Ideal.exp (s j + (if keep j then 0 else ⊥)))

/-- The weighted sum of one masked row: the kernel's order of operations and the reference's. -/
theorem masked_row (s v : Fin n → EReal) (hs : ∀ j, IsReal (s j)) (j₀ : Fin n) (h₀ : keep j₀) :
    rowSum keep s v
      = ∑ j, v j * Ideal.div (Ideal.exp ((if keep j then s j else ⊥) - Finset.univ.fold max ⊥ (fun k => if keep k then s k else ⊥)))
          (∑ l, Ideal.exp ((if keep l then s l else ⊥) - Finset.univ.fold max ⊥ (fun k => if keep k then s k else ⊥))) := by
  choose r hr using hs
  have hμ : IsReal (Finset.univ.fold max ⊥ (fun k => if keep k then s k else ⊥)) := by
    rcases fold_max_real Finset.univ (fun k => if keep k then s k else ⊥) (fun k => by
      by_cases h : keep k
      · exact Or.inr ⟨r k, by rw [if_pos h, hr k]⟩
      · exact Or.inl (if_neg h)) with e | e
    · exfalso
      have := le_fold_max Finset.univ (fun k => if keep k then s k else ⊥) j₀ (Finset.mem_univ _)
      rw [e, if_pos h₀, hr j₀] at this
      exact EReal.coe_ne_bot _ (le_bot_iff.mp this)
    · exact e
  obtain ⟨μ, hμ⟩ := hμ
  rw [hμ, rowSum]
  set e : Fin n → ℝ := fun j => if keep j then Real.exp (r j) else 0 with he
  have hk : ∀ j, Ideal.exp (s j + (if keep j then 0 else ⊥)) = (e j : EReal) := fun j => by rw [hr j, exp_masked]
  have hq : ∀ j, Ideal.exp ((if keep j then s j else ⊥) - (μ : EReal)) = ((e j * Real.exp (-μ) : ℝ) : EReal) := fun j => by
    rw [hr j, exp_shifted]
  simp only [hk, hq, coe_sum]
  have epos : ∀ j, 0 ≤ e j := fun j => by simp only [he]; split_ifs; exacts [(Real.exp_pos _).le, le_rfl]
  have spos : 0 < ∑ j, e j := Finset.sum_pos' (fun j _ => epos j) ⟨j₀, Finset.mem_univ _, by simp only [he, if_pos h₀]; exact Real.exp_pos _⟩
  have mpos := Real.exp_pos (-μ)
  have s'ne : ∑ j, e j * Real.exp (-μ) ≠ 0 := by rw [← Finset.sum_mul]; exact (mul_pos spos mpos).ne'
  rw [Ideal.div_coe spos.ne', one_mul, sum_mul_coe _ _ _ (one_div_nonneg.mpr spos.le)]
  refine Finset.sum_congr rfl fun j _ => ?_
  rw [Ideal.div_coe s'ne, ← EReal.coe_mul, mul_comm (e j : EReal) (v j), mul_assoc, ← EReal.coe_mul]
  congr 2
  rw [← Finset.sum_mul]
  field_simp

end Cert.Proof
-- ==== Proof.KerValue.lean ====
module

public import proofs.«01_k».proof.Proof.Mask
public import proofs.«01_k».proof.Proof.Softmax
public import Idealize.ShloMosaic.Lib.Pointwise.IndexBridge

@[expose] public section

noncomputable section

/-! # The kernel's result, read at an index

Over the reals a rounding is the identity, so every device ends with the same sums: a row's output is the sum over the
devices, in whatever order, of the product of the device's context with its rows of the output matrix. -/

namespace Cert.KernelIdeal.Ring

open Idealize.ShloMosaic Idealize.ShloMosaic.TcCoe Idealize.SL.Sem
open Cert.KernelIdeal.Gen

variable (B : Dev nD → Blocks Ideal)

theorem xV_apply (c : Dev nD) (i : S1024x768.Idx) : xV B c i = (B c).x i := by
  rw [eq_ix2 i]; pointwise [xV, k0_pay1]
theorem kV_apply (c : Dev nD) (i : S1024x512.Idx) : kV B c i = (B c).k i := by
  rw [eq_ix2 i]; pointwise [kV, k0_pay2]
theorem vV_apply (c : Dev nD) (i : S1024x512.Idx) : vV B c i = (B c).v i := by
  rw [eq_ix2 i]; pointwise [vV, k0_pay3]
theorem qV_apply (c : Dev nD) (r : Fin 1024) (l : Fin 512) : qV B c (ix2 r l) = ∑ e : Fin 768, (B c).x (ix2 r e) * (B c).wq (ix2 e l) := by
  pointwise [qV, k0_pay4, xV_apply]

/-- The row of a batch's position, and the column of a head's lane. -/
def rowOf (b : Fin 2) (i : Fin 512) : Fin 1024 := ⟨512 * b.val + i.val, by omega⟩
def laneOf (h : Fin 8) (d : Fin 64) : Fin 512 := ⟨64 * h.val + d.val, by omega⟩

theorem head_emb (h : Fin 2 × Fin 8) (i : Fin 512) (d : Fin 64) : (headR h).emb (ix2 i d) = ix2 (rowOf h.1 i) (laneOf h.2 d) := by
  funext a
  fin_cases a
  · apply Fin.ext; show 512 * h.1.val + 1 * i.val = 512 * h.1.val + i.val; omega
  · apply Fin.ext; show 64 * h.2.val + 1 * d.val = 64 * h.2.val + d.val; omega

/-- One head's score of a query and a key on a device. -/
def dotQK (c : Dev nD) (h : Fin 2 × Fin 8) (i j : Fin 512) : EReal :=
  (∑ d : Fin 64, (∑ e : Fin 768, (B c).x (ix2 (rowOf h.1 i) e) * (B c).wq (ix2 e (laneOf h.2 d))) * (B c).k (ix2 (rowOf h.1 j) (laneOf h.2 d)))
    * Ideal.ofBits .f32 0x3E000000#32

theorem headV_apply (c : Dev nD) (h : Fin 2 × Fin 8) (i : Fin 512) (l : Fin 64) :
    headV B c h (ix2 i l) = Cert.Proof.rowSum (Keeps i) (dotQK B c h i) (fun j => (B c).v (ix2 (rowOf h.1 j) (laneOf h.2 l))) := by
  unfold headV
  rw [head_apply]
  simp only [headBlk, head_emb, qV_apply, kV_apply, vV_apply, bias_apply]
  rfl

/-- A device's product of a chunk's rows. -/
theorem partV_apply (d j : Dev nD) (r : Fin 64) (n : Fin 768) :
    partV B d j (ix2 r n) = ∑ q : Fin 512, ctxRows j (ctxV B d) (ix2 r q) * (B d).wo (ix2 q n) := by
  pointwise [partV, k0_pay45]

theorem slot_apply (c d : Dev nD) (r : Fin 64) (n : Fin 768) : k0_pay61 (slotVec B c d) (ix2 r n) = partV B d c (ix2 r n) := by
  pointwise [k0_pay61]
  exact congrArg (partV B d c) (ix2_eq_valueIdx r n).symm
theorem addSlot_apply (acc : FVec Ideal S64x768 .f32) (c d : Dev nD) (r : Fin 64) (n : Fin 768) :
    addSlot acc (slotVec B c d) (ix2 r n) = acc (ix2 r n) + partV B d c (ix2 r n) := by
  pointwise [addSlot]
  exact congrArg (acc (ix2 r n) + partV B d c ·) (ix2_eq_valueIdx r n).symm

/-- The sum in ring order is the sum over the devices. -/
theorem fold_apply (c : Dev nD) (l : List (Fin 15)) (acc : FVec Ideal S64x768 .f32) (r : Fin 64) (n : Fin 768) :
    l.foldl (fun acc o => addSlot acc (slotVec B c (bwd c o))) acc (ix2 r n) = acc (ix2 r n) + (l.map fun o => partV B (bwd c o) c (ix2 r n)).sum := by
  induction l generalizing acc with
  | nil => simp
  | cons o l ih => rw [List.foldl_cons, ih, addSlot_apply, List.map_cons, List.sum_cons, add_assoc]
theorem accV_apply (c : Dev nD) (r : Fin 64) (n : Fin 768) : accV B c (ix2 r n) = ∑ d : Dev nD, partV B d c (ix2 r n) := by
  unfold accV
  rw [fold_apply, slot_apply, ← all_bwd c, Finset.sum_insert (by
    intro h; obtain ⟨o, -, ho⟩ := Finset.mem_image.mp h; exact bwd_ne c o ho),
    Finset.sum_image (fun o _ o' _ h => bwd_inj c o o' h)]
  congr 1

theorem outV_acc (c : Dev nD) (i : S1024x768.Idx) : outV B c i = accV B (chunkOf i) (placeOf i) := by
  unfold outV
  split_ifs with h
  · rw [h]
  · generalize chunkOf i = j
    rw [eq_ix2 (placeOf i)]
    pointwise [k0_pay74, redV, roundAcc]

/-- The context at a row of a batch and a lane of a head. -/
theorem ctxV_apply (d : Dev nD) (b : Fin 2) (i : Fin 512) (h : Fin 8) (l : Fin 64) :
    ctxV B d (ix2 (rowOf b i) (laneOf h l)) = headV B d (b, h) (ix2 i l) := by
  rw [← head_emb (b, h) i l]
  unfold ctxV
  rw [headOf_emb, inHead_emb]

/-- The result at a row of a batch: the sum over the devices and their context's lanes. -/
theorem outV_apply (c : Dev nD) (b : Fin 2) (i : Fin 512) (n : Fin 768) :
    outV B c (ix2 (rowOf b i) n) = ∑ d : Dev nD, ∑ q : Fin 512,
      Cert.Proof.rowSum (Keeps i) (dotQK B d (b, (⟨q.val / 64, by omega⟩ : Fin 8)) i)
        (fun j => (B d).v (ix2 (rowOf b j) (laneOf (⟨q.val / 64, by omega⟩ : Fin 8) (⟨q.val % 64, by omega⟩ : Fin 64)))) * (B d).wo (ix2 q n) := by
  have hrow : (rowOf b i).val < 1024 := (rowOf b i).isLt
  have hp : placeOf (ix2 (rowOf b i) n) = ix2 (⟨(rowOf b i).val % 64, by omega⟩ : Fin 64) n := (ix2_eq_valueIdx _ _).symm
  rw [outV_acc, hp, accV_apply]
  refine Finset.sum_congr rfl fun d _ => ?_
  rw [partV_apply]
  refine Finset.sum_congr rfl fun q _ => congrArg (· * _) ?_
  have hq : q.val < 512 := q.isLt
  rw [← headV_apply B d (b, ⟨q.val / 64, by omega⟩) i ⟨q.val % 64, by omega⟩, ← ctxV_apply]
  refine congrArg (ctxV B d) ((ix2_eq_valueIdx _ _).symm.trans (congrArg₂ ix2 (Fin.ext ?_) (Fin.ext ?_)))
  · show 64 * ((rowOf b i).val / 64) + (rowOf b i).val % 64 = (rowOf b i).val; omega
  · show q.val = 64 * (q.val / 64) + q.val % 64; omega

end Cert.KernelIdeal.Ring
-- ==== Proof.HostValue.lean ====
module

public import proofs.«01_k».proof.Proof.KerValue
public import proofs.«01_k».proof.Proof.Launch
public import Idealize.ShloMosaic.Lib.StableHlo.ReadAt

@[expose] public section

noncomputable section

/-! # The host's part of the kernel, read at an index

Before the call the host flattens the activations and the two caches and cuts a device's columns and rows out of the two
matrices; after it the host gives the result its three axes back. -/

namespace Cert.KernelIdeal.Ring

open Idealize.ShloMosaic Idealize.ShloMosaic.TcCoe
open Cert.KernelIdeal.Gen

variable (m : (ℓ : Loc nD τ sig) → Buf (Elt Ideal) ℓ)

/-- Each window's block is its whole array. -/
theorem whole_0 (f) (i : S1024x768.Idx) : ((cfg0.win 0).blk t0_0).view.read (Elt Ideal) f i = f i := by
  refine congrArg f (funext fun a => Fin.ext ?_)
  show 0 * _ + 1 * (i a).val = (i a).val
  omega
theorem whole_1 (f) (i : S768x512.Idx) : ((cfg0.win 1).blk t0_0).view.read (Elt Ideal) f i = f i := by
  refine congrArg f (funext fun a => Fin.ext ?_)
  show 0 * _ + 1 * (i a).val = (i a).val
  omega
theorem whole_2 (f) (i : S1024x512.Idx) : ((cfg0.win 2).blk t0_0).view.read (Elt Ideal) f i = f i := by
  refine congrArg f (funext fun a => Fin.ext ?_)
  show 0 * _ + 1 * (i a).val = (i a).val
  omega
theorem whole_3 (f) (i : S1024x512.Idx) : ((cfg0.win 3).blk t0_0).view.read (Elt Ideal) f i = f i := by
  refine congrArg f (funext fun a => Fin.ext ?_)
  show 0 * _ + 1 * (i a).val = (i a).val
  omega
theorem whole_4 (f) (i : S512x768.Idx) : ((cfg0.win 4).blk t0_0).view.read (Elt Ideal) f i = f i := by
  refine congrArg f (funext fun a => Fin.ext ?_)
  show 0 * _ + 1 * (i a).val = (i a).val
  omega
theorem whole_5 (f) (i : S1024x768.Idx) : ((cfg0.win 5).blk t0_0).view.read (Elt Ideal) f i = f i := by
  refine congrArg f (funext fun a => Fin.ext ?_)
  show 0 * _ + 1 * (i a).val = (i a).val
  omega

/-- A cache's index back from its row and its lane. -/
theorem cacheIx (b : Fin 2) (j : Fin 512) (h : Fin 8) (d : Fin 64) {h₁ h₂ h₃ h₄} :
    ix4 (⟨(rowOf b j).val / 512, h₁⟩ : Fin 2) (⟨(rowOf b j).val % 512, h₂⟩ : Fin 512) (⟨(laneOf h d).val / 64, h₃⟩ : Fin 8) (⟨(laneOf h d).val % 64, h₄⟩ : Fin 64)
      = ix4 b j h d := by
  rw [show (⟨(rowOf b j).val / 512, h₁⟩ : Fin 2) = b from Fin.ext (by show (512 * b.val + j.val) / 512 = b.val; omega),
    show (⟨(rowOf b j).val % 512, h₂⟩ : Fin 512) = j from Fin.ext (by show (512 * b.val + j.val) % 512 = j.val; omega),
    show (⟨(laneOf h d).val / 64, h₃⟩ : Fin 8) = h from Fin.ext (by show (64 * h.val + d.val) / 64 = h.val; omega),
    show (⟨(laneOf h d).val % 64, h₄⟩ : Fin 64) = d from Fin.ext (by show (64 * h.val + d.val) % 64 = d.val; omega)]

theorem x_apply (c : Dev nD) (b : Fin 2) (i : Fin 512) (e : Fin 768) :
    (blocks m c).x (ix2 (rowOf b i) e) = m ((c : Thread nD τ).loc main_arg0) (ix3 b i e) := by
  refine (whole_0 (V1 m c main_v5) _).trans ?_
  after_reads_at
  refine congrArg (m ((c : Thread nD τ).loc main_arg0)) (congrArg₂ (ix3 · · e) (Fin.ext ?_) (Fin.ext ?_))
  · show (512 * b.val + i.val) / 512 = b.val; omega
  · show (512 * b.val + i.val) % 512 = i.val; omega

theorem k_apply (c : Dev nD) (b : Fin 2) (j : Fin 512) (h : Fin 8) (d : Fin 64) :
    (blocks m c).k (ix2 (rowOf b j) (laneOf h d)) = m ((c : Thread nD τ).loc main_arg2) (ix4 b j h d) := by
  refine (whole_2 (V1 m c main_v6) _).trans ?_
  after_reads_at
  exact congrArg (m ((c : Thread nD τ).loc main_arg2)) (cacheIx b j h d)

theorem v_apply (c : Dev nD) (b : Fin 2) (j : Fin 512) (h : Fin 8) (d : Fin 64) :
    (blocks m c).v (ix2 (rowOf b j) (laneOf h d)) = m ((c : Thread nD τ).loc main_arg3) (ix4 b j h d) := by
  refine (whole_3 (V1 m c main_v7) _).trans ?_
  after_reads_at
  exact congrArg (m ((c : Thread nD τ).loc main_arg3)) (cacheIx b j h d)

/-- The first column, or row, of a device's part, as the host computes it. -/
def startWord (c : Dev nD) : BitVec 32 :=
  let w := IntOp.muli (IntOp.remui .host (IntOp.divui .host (Dev.word c) 1#32) 16#32) 512#32
  if IntOp.cmpi .slt w 0#32 = 1#1 then IntOp.addi w 8192#32 else w

theorem startWord_toInt : ∀ c : Dev nD, (startWord c).toInt = c.val * 512 := by decide

theorem wq_apply (c : Dev nD) (e : Fin 768) (q : Fin 512) (h : c.val * 512 + q.val < 8192) :
    (blocks m c).wq (ix2 e q) = m ((c : Thread nD τ).loc main_arg1) (ix2 e (⟨c.val * 512 + q.val, h⟩ : Fin 8192)) := by
  refine (whole_1 (V1 m c main_v12) _).trans ?_
  after_reads_at
  refine congrArg (m ((c : Thread nD τ).loc main_arg1)) (congrArg₂ ix2 (Fin.ext ?_) (Fin.ext ?_))
  · refine (congrArg (· + e.val) (Host.clampedStart_of_le _ _ _ 0 ?_ ?_)).trans (Nat.zero_add _)
    · show (StableHlo.upto (hostOps0 c) (V0 m c) 17 main_c_4 (Shape.Idx.first h_S_)).toInt = _
      after_reads_simp
      rfl
    · show 0 + 768 ≤ 768
      omega
  · refine congrArg (· + q.val) (Host.clampedStart_of_le _ _ _ (c.val * 512) ?_ ?_)
    · show (StableHlo.upto (hostOps0 c) (V0 m c) 17 main_v11 (Shape.Idx.first h_S_)).toInt = _
      after_reads_simp
      exact startWord_toInt c
    · show c.val * 512 + 512 ≤ 8192
      have := c.isLt
      omega

theorem wo_apply (c : Dev nD) (q : Fin 512) (n : Fin 768) (h : c.val * 512 + q.val < 8192) :
    (blocks m c).wo (ix2 q n) = m ((c : Thread nD τ).loc main_arg4) (ix2 (⟨c.val * 512 + q.val, h⟩ : Fin 8192) n) := by
  refine (whole_4 (V1 m c main_v17) _).trans ?_
  after_reads_at
  refine congrArg (m ((c : Thread nD τ).loc main_arg4)) (congrArg₂ ix2 (Fin.ext ?_) (Fin.ext ?_))
  · refine congrArg (· + q.val) (Host.clampedStart_of_le _ _ _ (c.val * 512) ?_ ?_)
    · show (StableHlo.upto (hostOps0 c) (V0 m c) 26 main_v16 (Shape.Idx.first h_S_)).toInt = _
      after_reads_simp
      exact startWord_toInt c
    · show c.val * 512 + 512 ≤ 8192
      have := c.isLt
      omega
  · refine (congrArg (· + n.val) (Host.clampedStart_of_le _ _ _ 0 ?_ ?_)).trans (Nat.zero_add _)
    · show (StableHlo.upto (hostOps0 c) (V0 m c) 26 main_c_8 (Shape.Idx.first h_S_)).toInt = _
      after_reads_simp
      rfl
    · show 0 + 768 ≤ 768
      omega

/-- The call leaves the kernel's result in its array, and the host gives it its axes. -/
theorem arr_out (c : Dev nD) (i : S1024x768.Idx) : outs m 2 main_v18 c i = outV (blocks m) c i := by
  rw [outs_eq]
  have h : (dat m c).arrAt 5 cfg0.N = ((cfg0.win 5).blk t0_0).view.write (Elt Ideal) ((dat m c).arrAt 5 t0_0) ((dat m c).flushed 5 t0_0) Finset.univ := by
    have e := (dat m c).arrAt_succ 5 t0_0
    rw [if_pos (flush0_5 t0_0)] at e
    rw [show cfg0.N = t0_0.val + 1 from N_0]
    exact e
  rw [h]
  refine (whole_5 _ i).symm.trans ?_
  rw [View.read_write_univ]
  rfl

theorem out_apply (c : Dev nD) (b : Fin 2) (i : Fin 512) (n : Fin 768) :
    V3 m (outs m) c main_v19 (ix3 b i n) = outV (blocks m) c (ix2 (rowOf b i) n) := by
  rw [← arr_out]
  after_reads_at
  refine (congrFun (Function.update_self (β := fun b : DevRef τ sig => Buf (Elt Ideal) (c, b)) (Proc.devRef .tc main_v18) (outs m 2 main_v18 c) (V1 m c)) _).trans ?_
  refine congrArg (outs m 2 main_v18 c) (congrArg (ix2 · n) (Fin.ext ?_))
  show b.val * 512 + i.val = 512 * b.val + i.val
  omega

end Cert.KernelIdeal.Ring
-- ==== Proof.RefValue.lean ====
module

public import proofs.«01_k».proof.Proof.Mask
public import proofs.«01_k».proof.Proof.Softmax
public import proofs.«01_k».proof.Proof.Gen.ReferenceIdeal.Run

@[expose] public section

noncomputable section

/-! # The reference, read at an index

The reference's result as a tower of its own steps: the mask, the scores, their exponentials, the weights, the context. -/

namespace Cert.ReferenceIdeal.Value

open Cert.ReferenceIdeal Cert.ReferenceIdeal.Gen Idealize.ShloMosaic Idealize.ShloMosaic.TcCoe Idealize.SL.Sem
open Cert.KernelIdeal.Ring (Keeps keeps_first)
open Cert.Proof (IsReal)

/-! ## The mask -/

/-- The block of a row or a column. -/
def blockV : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32)))) (broadcastInDim S512 ![] bcast_S_S512 (constantI S_ 32 0#32))))
    (subi (Host.divsi (iotaInDim S512 32 0) (broadcastInDim S512 ![] bcast_S_S512 (id (constantI S_ 32 64#32)))) (broadcastInDim S512 ![] bcast_S_S512 (constantI S_ 32 1#32)))
    (Host.divsi (iotaInDim S512 32 0) (broadcastInDim S512 ![] bcast_S_S512 (id (constantI S_ 32 64#32))))
def rowV : IVec S512x512 32 := broadcastInDim S512x512 ![0, 1] bcast_S512x1_S512x512_0_1 (broadcastInDim S512x1 ![0] bcast_S512_S512x1_0 blockV)
def colV : IVec S512x512 32 := broadcastInDim S512x512 ![0, 1] bcast_S1x512_S512x512_0_1 (broadcastInDim S1x512 ![1] bcast_S512_S1x512_1 blockV)
def threeV : IVec S_ 32 := select (cmpi .eq (id (constantI S_ 32 3#32)) (constantI S_ 32 0#32)) (constantI S_ 32 1#32) (id (constantI S_ 32 3#32))
/-- The remainder of the two blocks' sum by three. -/
def remV : IVec S512x512 32 := Host.remsi (addi rowV colV) (broadcastInDim S512x512 ![] bcast_S_S512x512 threeV)
def maskV : IVec S512x512 1 :=
  ori (ori (cmpi .eq rowV colV) (broadcastInDim S512x512 ![0, 1] bcast_S1x512_S512x512_0_1
      (cmpi .eq (broadcastInDim S1x512 ![1] bcast_S512_S1x512_1 blockV) (broadcastInDim S1x512 ![] bcast_S_S1x512 (constantI S_ 32 0#32)))))
    (cmpi .eq (select (andi (cmpi .ne (cmpi .slt remV (broadcastInDim S512x512 ![] bcast_S_S512x512 (constantI S_ 32 0#32)))
          (broadcastInDim S512x512 ![] bcast_S_S512x512 (cmpi .slt threeV (constantI S_ 32 0#32))))
        (cmpi .ne remV (broadcastInDim S512x512 ![] bcast_S_S512x512 (constantI S_ 32 0#32))))
      (addi remV (broadcastInDim S512x512 ![] bcast_S_S512x512 threeV)) remV) (broadcastInDim S512x512 ![] bcast_S_S512x512 (constantI S_ 32 0#32)))
/-- Whether a row keeps any score. -/
def keepV : IVec S512 1 := Host.reduce IntOp.ori maskV (constantI S_ 1 0#1) reducesTo_S512x512_S512_d1 h_S_

theorem block_word (i : Fin 512) : blockV (ix1 i) = BitVec.ofNat 32 (i.val / 64) := by
  pointwise [blockV]
  revert i; decide +kernel

/-- The reference's mask bit from the words of a row's and a column's block. -/
def maskBit (r c : BitVec 32) : BitVec 1 :=
  IntOp.ori (IntOp.ori (IntOp.cmpi .eq r c) (IntOp.cmpi .eq c 0#32))
    (IntOp.cmpi .eq (Scalar.select (IntOp.andi (IntOp.cmpi .ne (IntOp.cmpi .slt (IntOp.remsi .host (IntOp.addi r c) 3#32) 0#32) 0#1)
        (IntOp.cmpi .ne (IntOp.remsi .host (IntOp.addi r c) 3#32) 0#32))
      (IntOp.addi (IntOp.remsi .host (IntOp.addi r c) 3#32) 3#32) (IntOp.remsi .host (IntOp.addi r c) 3#32)) 0#32)
theorem maskBit_blocks : ∀ a b : Fin 8, maskBit (BitVec.ofNat 32 a.val) (BitVec.ofNat 32 b.val)
    = if a.val = b.val ∨ b.val = 0 ∨ (a.val + b.val) % 3 = 0 then 1#1 else 0#1 := by decide +kernel

theorem mask_apply (i j : Fin 512) : maskV (ix2 i j) = if Keeps i j then 1#1 else 0#1 := by
  have e : maskV (ix2 i j) = maskBit (blockV (ix1 i)) (blockV (ix1 j)) := by
    pointwise [maskV, remV, rowV, colV, threeV]
    rfl
  rw [e, block_word, block_word]
  exact maskBit_blocks ⟨i.val / 64, by omega⟩ ⟨j.val / 64, by omega⟩

/-! ## The attention -/

variable (x : FVec Ideal S2x512x768 .bf16) (wq : FVec Ideal S768x8192 .bf16) (k v : FVec Ideal S2x512x128x64 .bf16) (wo : FVec Ideal S8192x768 .bf16)

def scoreV : FVec Ideal S2x128x512x512 .f32 :=
  select (broadcastInDim S2x128x512x512 ![0, 1, 2, 3] bcast_S1x1x512x512_S2x128x512x512_0_1_2_3 (broadcastInDim S1x1x512x512 ![2, 3] bcast_S512x512_S1x1x512x512_2_3 maskV))
    (mulf (Host.dotGeneral dot_S2x512x128x64_S2x512x128x64_S2x128x512x512_3_3_1_1_02_02 none
        (shapeCast S2x512x128x64 (Host.dotGeneral dot_S2x512x768_S768x8192_S2x512x8192_2_0_01_1_n_n none (extf .f32 x bitsLt_bf16_f32) (extf .f32 wq bitsLt_bf16_f32) : FVec Ideal S2x512x8192 .f32) shapeCasts_S2x512x8192_S2x512x128x64)
        (extf .f32 k bitsLt_bf16_f32)) (broadcastInDim S2x128x512x512 ![] bcast_S_S2x128x512x512 (constant S_ .f32 0x3E000000#32)))
    (broadcastInDim S2x128x512x512 ![] bcast_S_S2x128x512x512 (id (constant S_ .f32 0xFF800000#32)))
def expV (s : FVec Ideal S2x128x512x512 .f32) : FVec Ideal S2x128x512x512 .f32 :=
  Host.exp (subf s (broadcastInDim S2x128x512x512 ![0, 1, 2, 3] bcast_S2x128x512x1_S2x128x512x512_0_1_2_3
    (broadcastInDim S2x128x512x1 ![0, 1, 2] bcast_S2x128x512_S2x128x512x1_0_1_2 (Host.reduce FloatOps.maximumf s (constant S_ .f32 0xFF800000#32) reducesTo_S2x128x512x512_S2x128x512_d3 h_S_))))
def weightV (e : FVec Ideal S2x128x512x512 .f32) : FVec Ideal S2x128x512x512 .f32 :=
  select (broadcastInDim S2x128x512x512 ![0, 1, 2, 3] bcast_S1x1x512x1_S2x128x512x512_0_1_2_3 (broadcastInDim S1x1x512x1 ![2] bcast_S512_S1x1x512x1_2 keepV))
    (Host.divf e (broadcastInDim S2x128x512x512 ![0, 1, 2, 3] bcast_S2x128x512x1_S2x128x512x512_0_1_2_3
      (select (broadcastInDim S2x128x512x1 ![0, 1, 2, 3] bcast_S1x1x512x1_S2x128x512x1_0_1_2_3 (broadcastInDim S1x1x512x1 ![2] bcast_S512_S1x1x512x1_2 keepV))
        (broadcastInDim S2x128x512x1 ![0, 1, 2] bcast_S2x128x512_S2x128x512x1_0_1_2 (Host.reduceAdd e (constant S_ .f32 0x00000000#32) reducesTo_S2x128x512x512_S2x128x512_d3 h_S_))
        (broadcastInDim S2x128x512x1 ![] bcast_S_S2x128x512x1 (id (constant S_ .f32 0x3F800000#32))))))
    (broadcastInDim S2x128x512x512 ![] bcast_S_S2x128x512x512 (id (constant S_ .f32 0x00000000#32)))
def outV : FVec Ideal S2x512x768 .f32 :=
  Host.dotGeneral dot_S2x512x8192_S8192x768_S2x512x768_2_0_01_1_n_n none
    (shapeCast S2x512x8192 (transpose S2x512x128x64 [0, 3, 1, 2] (Host.dotGeneral dot_S2x512x128x64_S2x128x512x512_S2x128x64x512_1_3_3_2_02_01 none (extf .f32 v bitsLt_bf16_f32) (weightV (expV (scoreV x wq k))) : FVec Ideal S2x128x64x512 .f32)
      transposes_S2x128x64x512_S2x512x128x64_0_3_1_2) shapeCasts_S2x512x128x64_S2x512x8192) (extf .f32 wo bitsLt_bf16_f32)

theorem out_eq (m : (ℓ : Loc nD τ sig) → Buf (Elt Ideal) ℓ) (c : Dev nD) :
    res_out0 m c = outV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- Every row keeps its first column. -/
theorem keep_apply (i : Fin 512) : keepV (ix1 i) = 1#1 := by
  pointwise [keepV]
  have one_or : ∀ y : BitVec 1, IntOp.ori 1#1 y = 1#1 := by decide
  rw [← Finset.insert_erase (Finset.mem_univ (0 : Fin 512)), Finset.fold_insert (Finset.notMem_erase _ _), mask_apply, if_pos (keeps_first i), one_or]

/-- The scaled score of a query and a key in one head. -/
def dotQK (b : Fin 2) (h : Fin 128) (i j : Fin 512) : EReal :=
  (∑ d : Fin 64, (∑ e : Fin 768, x (ix3 b i e) * wq (ix2 e (⟨h.val * 64 + d.val, by omega⟩ : Fin 8192))) * k (ix4 b j h d)) * Ideal.ofBits .f32 0x3E000000#32

theorem dotQK_real (hx : ∀ i, IsReal (x i)) (hwq : ∀ i, IsReal (wq i)) (hk : ∀ i, IsReal (k i)) (b : Fin 2) (h : Fin 128) (i j : Fin 512) :
    IsReal (dotQK x wq k b h i j) :=
  Cert.Proof.isReal_mul (Cert.Proof.isReal_sum _ _ fun d =>
    Cert.Proof.isReal_mul (Cert.Proof.isReal_sum _ _ fun e => Cert.Proof.isReal_mul (hx _) (hwq _)) (hk _)) Cert.Proof.scale_real

theorem score_apply (b : Fin 2) (h : Fin 128) (i j : Fin 512) :
    scoreV x wq k (ix4 b h i j) = if Keeps i j then dotQK x wq k b h i j else ⊥ := by
  pointwise [scoreV, mask_apply]
  by_cases hk : Keeps i j
  · rw [if_pos hk, if_pos hk]; rfl
  · rw [if_neg hk, if_neg hk]; exact Cert.Proof.fill_bot
theorem exp_apply (s : FVec Ideal S2x128x512x512 .f32) (b : Fin 2) (h : Fin 128) (i j : Fin 512) :
    expV s (ix4 b h i j) = Ideal.exp (s (ix4 b h i j) - Finset.univ.fold max ⊥ (fun l : Fin 512 => s (ix4 b h i l))) := by
  pointwise [expV]
  rw [Cert.Proof.fill_bot]
theorem weight_apply (e : FVec Ideal S2x128x512x512 .f32) (b : Fin 2) (h : Fin 128) (i j : Fin 512) :
    weightV e (ix4 b h i j) = Ideal.div (e (ix4 b h i j)) (∑ l : Fin 512, e (ix4 b h i l)) := by
  pointwise [weightV, keep_apply]

/-- The result: the output projection of every head's rows. -/
theorem out_apply (hx : ∀ i, IsReal (x i)) (hwq : ∀ i, IsReal (wq i)) (hk : ∀ i, IsReal (k i)) (b : Fin 2) (i : Fin 512) (n : Fin 768) :
    outV x wq k v wo (ix3 b i n) = ∑ p : Fin 8192,
      Cert.Proof.rowSum (Keeps i) (dotQK x wq k b (⟨p.val / 64, by omega⟩ : Fin 128) i) (fun j => v (ix4 b j (⟨p.val / 64, by omega⟩ : Fin 128) (⟨p.val % 64, by omega⟩ : Fin 64)))
        * wo (ix2 p n) := by
  pointwise [outV]
  refine Finset.sum_congr rfl fun p _ => congrArg (· * _) ?_
  refine Eq.trans ?_ (Cert.Proof.masked_row (Keeps i) _ _ (fun j => dotQK_real x wq k hx hwq hk b _ i j) 0 (keeps_first i)).symm
  refine Finset.sum_congr rfl fun j _ => congrArg (_ * ·) ?_
  rw [weight_apply]
  simp only [exp_apply, score_apply]

end Cert.ReferenceIdeal.Value
-- ==== Proof.Algebra.lean ====
module

public import proofs.«01_k».proof.Proof.HostValue
public import proofs.«01_k».proof.Proof.RefValue
public import proofs.«01_k».proof.Proof.Frames
public import Idealize.ShloMosaic.Lib.Pipeline.ValueKit.Acc
public import Idealize.ShloMosaic.Lib.ReduceAll

@[expose] public section

noncomputable section

/-! # The kernel computes the reference

Both are one sum over all 8192 lanes of the context: the kernel's sum runs over the devices and each device's 512 lanes. -/

namespace Cert.Proof

open Idealize.ShloMosaic Idealize.ShloMosaic.TcCoe Idealize.SL.Sem
open Cert.KernelIdeal.Ring (Blocks Keeps rowOf laneOf)

/-! ## The two sums -/

section Sums

variable (B : Dev Cert.KernelIdeal.nD → Blocks Ideal)
  (x : FVec Ideal Cert.ReferenceIdeal.S2x512x768 .bf16) (wq : FVec Ideal Cert.ReferenceIdeal.S768x8192 .bf16)
  (k v : FVec Ideal Cert.ReferenceIdeal.S2x512x128x64 .bf16) (wo : FVec Ideal Cert.ReferenceIdeal.S8192x768 .bf16)

/-- Every device's blocks are its parts of the whole arrays. -/
structure Parts : Prop where
  x : ∀ c b i e, (B c).x (ix2 (rowOf b i) e) = x (ix3 b i e)
  wq : ∀ c e q (h : c.val * 512 + q.val < 8192), (B c).wq (ix2 e q) = wq (ix2 e (⟨c.val * 512 + q.val, h⟩ : Fin 8192))
  k : ∀ c b j t d (h : c.val * 8 + t.val < 128), (B c).k (ix2 (rowOf b j) (laneOf t d)) = k (ix4 b j (⟨c.val * 8 + t.val, h⟩ : Fin 128) d)
  v : ∀ c b j t d (h : c.val * 8 + t.val < 128), (B c).v (ix2 (rowOf b j) (laneOf t d)) = v (ix4 b j (⟨c.val * 8 + t.val, h⟩ : Fin 128) d)
  wo : ∀ c q n (h : c.val * 512 + q.val < 8192), (B c).wo (ix2 q n) = wo (ix2 (⟨c.val * 512 + q.val, h⟩ : Fin 8192) n)

variable {B x wq k v wo}

/-- A device's score is the reference's, at the device's head. -/
theorem dot_parts (H : Parts B x wq k v wo) (c : Dev Cert.KernelIdeal.nD) (b : Fin 2) (t : Fin 8) (h : c.val * 8 + t.val < 128) (i j : Fin 512) :
    Cert.KernelIdeal.Ring.dotQK B c (b, t) i j = Cert.ReferenceIdeal.Value.dotQK x wq k b (⟨c.val * 8 + t.val, h⟩ : Fin 128) i j := by
  unfold Cert.KernelIdeal.Ring.dotQK Cert.ReferenceIdeal.Value.dotQK
  refine congrArg (· * _) (Finset.sum_congr rfl fun d _ => ?_)
  rw [H.k c b j t d h]
  refine congrArg (· * _) (Finset.sum_congr rfl fun e _ => ?_)
  rw [H.x, H.wq c e (laneOf t d) (by show c.val * 512 + (64 * t.val + d.val) < 8192; omega)]
  refine congrArg (fun p : Fin 8192 => x (ix3 b i e) * wq (ix2 e p)) (Fin.ext ?_)
  show c.val * 512 + (64 * t.val + d.val) = (c.val * 8 + t.val) * 64 + d.val
  omega

theorem out_parts (H : Parts B x wq k v wo) (hx : ∀ i, IsReal (x i)) (hwq : ∀ i, IsReal (wq i)) (hk : ∀ i, IsReal (k i))
    (c : Dev Cert.KernelIdeal.nD) (b : Fin 2) (i : Fin 512) (n : Fin 768) :
    Cert.KernelIdeal.Ring.outV B c (ix2 (rowOf b i) n) = Cert.ReferenceIdeal.Value.outV x wq k v wo (ix3 b i n) := by
  rw [Cert.KernelIdeal.Ring.outV_apply, Cert.ReferenceIdeal.Value.out_apply x wq k v wo hx hwq hk]
  refine Fin.sum_mul_add_congr (L := 8192) (S := 16) (n := 512) fun d q hl => ?_
  have hd : d.val < 16 := d.isLt
  have hq : q.val < 512 := q.isLt
  have h₁ : d.val * 8 + q.val / 64 < 128 := by omega
  have e₁ : (⟨(d.val * 512 + q.val) / 64, by omega⟩ : Fin 128) = ⟨d.val * 8 + q.val / 64, h₁⟩ := Fin.ext (by show (d.val * 512 + q.val) / 64 = d.val * 8 + q.val / 64; omega)
  have e₂ : (⟨(d.val * 512 + q.val) % 64, by omega⟩ : Fin 64) = ⟨q.val % 64, by omega⟩ := Fin.ext (by show (d.val * 512 + q.val) % 64 = q.val % 64; omega)
  rw [H.wo d q n hl]
  refine congrArg (· * _) ?_
  refine congrArg₂ (rowSum (Keeps i)) (funext fun j => ?_) (funext fun j => ?_)
  · rw [dot_parts H d b ⟨q.val / 64, by omega⟩ h₁ i j]
    exact congrArg (Cert.ReferenceIdeal.Value.dotQK x wq k b · i j) e₁.symm
  · rw [H.v d b j ⟨q.val / 64, by omega⟩ ⟨q.val % 64, by omega⟩ h₁]
    exact congrArg₂ (fun s t => v (ix4 b j s t)) e₁.symm e₂.symm

end Sums

/-! ## The precondition -/

theorem pre_facts_kernel : Cert.Pre_finite_scores_KernelIdeal.Facts := by constructor <;> decide
theorem pre_facts_reference : Cert.Pre_finite_scores_ReferenceIdeal.Facts := by constructor <;> decide

/-- A conjunction over an array of the comparisons of its magnitudes with plus infinity. -/
theorem isReal_of_all {S : Shape} {axes : List (Fin S.rank)} (x : FVec Ideal S .bf16) {bits} {dims} {hb} {hr} {hu} (o : Cert.Pre_finite_scores_KernelIdeal.S_.Idx)
    (h : Host.reduce IntOp.andi
      (cmpf .olt (Host.absf (extf .f32 x bits)) (broadcastInDim S dims hb (constant (F := Ideal) Cert.Pre_finite_scores_KernelIdeal.S_ .f32 0x7F800000#32)))
      (constantI Cert.Pre_finite_scores_KernelIdeal.S_ 1 1#1) (axes := axes) (t := Cert.Pre_finite_scores_KernelIdeal.S_) hr hu o = 1#1) (i : S.Idx) : IsReal (x i) := by
  haveI : Subsingleton Cert.Pre_finite_scores_KernelIdeal.S_.Idx := ⟨fun a b => funext fun k => k.elim0⟩
  have e := Host.reduce_andi_all _ _ _ _ _ h i
  refine isReal_of_abs_lt (Eq.trans ?_ e)
  rw [← inf_top]
  rfl

/-- The precondition makes every score's three factors real. -/
theorem pre_real [Cert.Pre_finite_scores_KernelIdeal.Facts]
    (m : (ℓ : Loc Cert.KernelIdeal.nD Cert.KernelIdeal.τ Cert.KernelIdeal.sig) → Buf (Elt Ideal) ℓ)
    (h : Cert.Pre_KernelIdeal_finite_scores_KernelIdeal m) (c : Dev Cert.KernelIdeal.nD) :
    (∀ i : Cert.KernelIdeal.S2x512x768.Idx, IsReal (m ((c : Thread Cert.KernelIdeal.nD Cert.KernelIdeal.τ).loc Cert.KernelIdeal.main_arg0) i))
      ∧ (∀ i : Cert.KernelIdeal.S768x8192.Idx, IsReal (m ((c : Thread Cert.KernelIdeal.nD Cert.KernelIdeal.τ).loc Cert.KernelIdeal.main_arg1) i))
      ∧ ∀ i : Cert.KernelIdeal.S2x512x8x64.Idx, IsReal (m ((c : Thread Cert.KernelIdeal.nD Cert.KernelIdeal.τ).loc Cert.KernelIdeal.main_arg2) i) := by
  have o : Cert.Pre_finite_scores_KernelIdeal.S_.Idx := fun k => k.elim0
  have e := congrFun (h c) o
  obtain ⟨e₁, e₂⟩ := IntOp.andi_eq_one.1 e
  obtain ⟨e₀, e₁⟩ := IntOp.andi_eq_one.1 e₁
  exact ⟨isReal_of_all _ o e₀, isReal_of_all _ o e₁, isReal_of_all _ o e₂⟩

/-! ## The claim -/

theorem block_cache (a : Cert.ReferenceIdeal.S2x512x128x64.Idx → EReal) (c : Fin 16) (b : Fin 2) (j : Fin 512) (t : Fin 8) (d : Fin 64)
    (h : c.val * 8 + t.val < 128) :
    Layout.block ⟨4, ![2, 512, 8, 64]⟩ ⟨4, ![2, 512, 128, 64]⟩ 2 16 c a (by decide) (ix4 b j t d) = a (ix4 b j (⟨c.val * 8 + t.val, h⟩ : Fin 128) d) := by
  refine congrArg a (funext fun k => ?_)
  fin_cases k <;> exact Fin.ext rfl

theorem algebraic [hP : Cert.Pre_finite_scores_KernelIdeal.Facts] : Cert.algebraic_KernelIdeal_ReferenceIdeal_pre_finite_scores_KernelIdeal := by
  intro m g m' g' hpre hparts
  let x : FVec Ideal Cert.ReferenceIdeal.S2x512x768 .bf16 := m' (((0 : Dev Cert.ReferenceIdeal.nD).tc : Thread Cert.ReferenceIdeal.nD Cert.ReferenceIdeal.τ).loc Cert.ReferenceIdeal.main_arg0)
  let wq : FVec Ideal Cert.ReferenceIdeal.S768x8192 .bf16 := m' (((0 : Dev Cert.ReferenceIdeal.nD).tc : Thread Cert.ReferenceIdeal.nD Cert.ReferenceIdeal.τ).loc Cert.ReferenceIdeal.main_arg1)
  let k : FVec Ideal Cert.ReferenceIdeal.S2x512x128x64 .bf16 := m' (((0 : Dev Cert.ReferenceIdeal.nD).tc : Thread Cert.ReferenceIdeal.nD Cert.ReferenceIdeal.τ).loc Cert.ReferenceIdeal.main_arg2)
  let v : FVec Ideal Cert.ReferenceIdeal.S2x512x128x64 .bf16 := m' (((0 : Dev Cert.ReferenceIdeal.nD).tc : Thread Cert.ReferenceIdeal.nD Cert.ReferenceIdeal.τ).loc Cert.ReferenceIdeal.main_arg3)
  let wo : FVec Ideal Cert.ReferenceIdeal.S8192x768 .bf16 := m' (((0 : Dev Cert.ReferenceIdeal.nD).tc : Thread Cert.ReferenceIdeal.nD Cert.ReferenceIdeal.τ).loc Cert.ReferenceIdeal.main_arg4)
  have H : Parts (Cert.KernelIdeal.Ring.blocks m) x wq k v wo :=
    { x := fun c b i e => (Cert.KernelIdeal.Ring.x_apply m c b i e).trans (congrFun (hparts c).1 (ix3 b i e))
      wq := fun c e q h => (Cert.KernelIdeal.Ring.wq_apply m c e q h).trans (congrFun (hparts c).2.1 (ix2 e (⟨c.val * 512 + q.val, h⟩ : Fin 8192)))
      k := fun c b j t d h => (Cert.KernelIdeal.Ring.k_apply m c b j t d).trans ((congrFun (hparts c).2.2.1 (ix4 b j t d)).trans (block_cache k c b j t d h))
      v := fun c b j t d h => (Cert.KernelIdeal.Ring.v_apply m c b j t d).trans ((congrFun (hparts c).2.2.2.1 (ix4 b j t d)).trans (block_cache v c b j t d h))
      wo := fun c q n h => (Cert.KernelIdeal.Ring.wo_apply m c q n h).trans (congrFun (hparts c).2.2.2.2 (ix2 (⟨c.val * 512 + q.val, h⟩ : Fin 8192) n)) }
  have hx : ∀ i, IsReal (x i) := fun i => by
    have e := (pre_real m hpre 0).1 i
    rwa [(hparts 0).1] at e
  have hwq : ∀ i, IsReal (wq i) := fun i => by
    have e := (pre_real m hpre 0).2.1 i
    rwa [(hparts 0).2.1] at e
  have hk : ∀ i, IsReal (k i) := fun i => by
    have ht : (i 2).val < 128 := (i 2).isLt
    have e := (pre_real m hpre ⟨(i 2).val / 8, by show _ < 16; omega⟩).2.2 (ix4 (i 0) (i 1) (⟨(i 2).val % 8, by omega⟩ : Fin 8) (i 3))
    rw [(hparts _).2.2.1] at e
    have hl : (i 2).val / 8 * 8 + (i 2).val % 8 < 128 := by omega
    have e' := (block_cache k ⟨(i 2).val / 8, by omega⟩ (i 0) (i 1) ⟨(i 2).val % 8, by omega⟩ (i 3) hl) ▸ e
    refine (congrArg (fun j => IsReal (k j)) ?_).mp e'
    refine Eq.trans (congrArg (fun s : Fin 128 => ix4 (i 0) (i 1) s (i 3)) (Fin.ext ?_)) (eq_ix4 i).symm
    show (i 2).val / 8 * 8 + (i 2).val % 8 = (i 2).val
    omega
  refine ⟨Cert.ReferenceIdeal.Value.res_main_v49 m' 0, ?_, ?_⟩
  · refine (θ_run Cert.KernelIdeal.defs _ _).mono (fun r h c => ⟨?_, Cert.KernelIdeal.Ring.args_kept m (Cert.KernelIdeal.Ring.outs m) c r.2.mem (h.1 c)⟩)
      (Cert.KernelIdeal.Ring.run_main (F := Ideal) m g)
    refine (h.1 c (Proc.devRef .tc Cert.KernelIdeal.main_v19) (Finset.mem_filter.mpr ⟨StableHlo.devRef_mem_tcRefs _, by decide⟩)).trans ?_
    refine Eq.trans (funext fun i : Cert.ReferenceIdeal.S2x512x768.Idx => ?_) (Cert.ReferenceIdeal.Value.out_eq m' 0).symm
    rw [eq_ix3 i]
    exact (Cert.KernelIdeal.Ring.out_apply m c (i 0) (i 1) (i 2)).trans (out_parts H hx hwq hk c (i 0) (i 1) (i 2))
  · exact (θ_run Cert.ReferenceIdeal.defs _ _).mono (fun r h => h 0) (Cert.ReferenceIdeal.Value.run (F := Ideal) m' g')

end Cert.Proof
-- ==== Proof.lean ====
module

public import proofs.«01_k».proof.Defs
public import proofs.«01_k».proof.Proof.Frames
public import proofs.«01_k».proof.Proof.Algebra

@[expose] public section

namespace Cert.Proof

/-- The certificate's claim: the frames, what the idealized kernel names, and that it computes the reference. -/
theorem claim : Cert.Claim :=
  ⟨Cert.Kernel.Gen.facts, Cert.KernelIdeal.Gen.facts, Cert.ReferenceIdeal.Gen.facts, pre_facts_kernel, pre_facts_reference,
    frame_Kernel, frame_KernelIdeal, fun m g _ => frame_KernelIdeal m g trivial,
    frame_ReferenceIdeal, fun m g _ => frame_ReferenceIdeal m g trivial, mask_named, algebraic (hP := pre_facts_kernel)⟩

end Cert.Proof
